-- ==== Defs.lean ====
def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Attn16 (m : (ℓ : Loc Cert.Attn16.nD Cert.Attn16.τ Cert.Attn16.sig) → Buf (Elt Bits) ℓ) : Prop :=
  True

def Pre_Attn16Ideal (m : (ℓ : Loc Cert.Attn16Ideal.nD Cert.Attn16Ideal.τ Cert.Attn16Ideal.sig) → Buf (Elt Ideal) ℓ) : Prop :=
  True

def Pre_AttnRef16Ideal (m : (ℓ : Loc Cert.AttnRef16Ideal.nD Cert.AttnRef16Ideal.τ Cert.AttnRef16Ideal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_Qkv1RefIdeal (m : (ℓ : Loc Cert.Qkv1RefIdeal.nD Cert.Qkv1RefIdeal.τ Cert.Qkv1RefIdeal.sig) → Buf (Elt Ideal) ℓ) : Prop :=
  True

def Pre_Qkv4 (m : (ℓ : Loc Cert.Qkv4.nD Cert.Qkv4.τ Cert.Qkv4.sig) → Buf (Elt Bits) ℓ) : Prop :=
  True

def Pre_Qkv4Ideal (m : (ℓ : Loc Cert.Qkv4Ideal.nD Cert.Qkv4Ideal.τ Cert.Qkv4Ideal.sig) → Buf (Elt Ideal) ℓ) : Prop :=
  True

def Pre_Qkv4RefIdeal (m : (ℓ : Loc Cert.Qkv4RefIdeal.nD Cert.Qkv4RefIdeal.τ Cert.Qkv4RefIdeal.sig) → Buf (Elt Ideal) ℓ) : Prop :=
  True

def Pre_Qkv16 (m : (ℓ : Loc Cert.Qkv16.nD Cert.Qkv16.τ Cert.Qkv16.sig) → Buf (Elt Bits) ℓ) : Prop :=
  True

def Pre_Qkv16Ideal (m : (ℓ : Loc Cert.Qkv16Ideal.nD Cert.Qkv16Ideal.τ Cert.Qkv16Ideal.sig) → Buf (Elt Ideal) ℓ) : Prop :=
  True

def Pre_Qkv16RefIdeal (m : (ℓ : Loc Cert.Qkv16RefIdeal.nD Cert.Qkv16RefIdeal.τ Cert.Qkv16RefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_FourierOut (m : (ℓ : Loc Cert.FourierOut.nD Cert.FourierOut.τ Cert.FourierOut.sig) → Buf (Elt Bits) ℓ) : Prop :=
  True

def Pre_FourierOutIdeal (m : (ℓ : Loc Cert.FourierOutIdeal.nD Cert.FourierOutIdeal.τ Cert.FourierOutIdeal.sig) → Buf (Elt Ideal) ℓ) : Prop :=
  True

def Pre_FourierOutRefIdeal (m : (ℓ : Loc Cert.FourierOutRefIdeal.nD Cert.FourierOutRefIdeal.τ Cert.FourierOutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleRefIdeal (m : (ℓ : Loc Cert.NormSampleRefIdeal.nD Cert.NormSampleRefIdeal.τ Cert.NormSampleRefIdeal.sig) → Buf (Elt Ideal) ℓ) : Prop :=
  True

def Pre_DftSeq (m : (ℓ : Loc Cert.DftSeq.nD Cert.DftSeq.τ Cert.DftSeq.sig) → Buf (Elt Bits) ℓ) : Prop :=
  True

def Pre_DftSeqIdeal (m : (ℓ : Loc Cert.DftSeqIdeal.nD Cert.DftSeqIdeal.τ Cert.DftSeqIdeal.sig) → Buf (Elt Ideal) ℓ) : Prop :=
  True

def Pre_DftSeqRefIdeal (m : (ℓ : Loc Cert.DftSeqRefIdeal.nD Cert.DftSeqRefIdeal.τ Cert.DftSeqRefIdeal.sig) → Buf (Elt Ideal) ℓ) : Prop :=
  True

def Pre_DftChannel (m : (ℓ : Loc Cert.DftChannel.nD Cert.DftChannel.τ Cert.DftChannel.sig) → Buf (Elt Bits) ℓ) : Prop :=
  True

def Pre_DftChannelIdeal (m : (ℓ : Loc Cert.DftChannelIdeal.nD Cert.DftChannelIdeal.τ Cert.DftChannelIdeal.sig) → Buf (Elt Ideal) ℓ) : Prop :=
  True

def Pre_DftChannelRefIdeal (m : (ℓ : Loc Cert.DftChannelRefIdeal.nD Cert.DftChannelRefIdeal.τ Cert.DftChannelRefIdeal.sig) → Buf (Elt Ideal) ℓ) : Prop :=
  True

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Attn16 [hAttn16 : Cert.Attn16.Facts] : Prop :=
  ∀ (m : (ℓ : Loc Cert.Attn16.nD Cert.Attn16.τ Cert.Attn16.sig) → Buf (Elt Bits) ℓ) (g : Dev Cert.Attn16.nD → PrngReg), Pre_Attn16 m →
    θ_run (Cert.Attn16.defs (F := Bits)) (onTc (τ := Cert.Attn16.τ) (Cert.Attn16.main (F := Bits))) ⟨m, fun _ => 0, g⟩ (fun r => (∀ c : Dev Cert.Attn16.nD,
      r.2.mem ((c.tc : Thread Cert.Attn16.nD Cert.Attn16.τ).loc Cert.Attn16.main_arg0) = m ((c.tc : Thread Cert.Attn16.nD Cert.Attn16.τ).loc Cert.Attn16.main_arg0))
      ∧ r.2.sem = fun _ => 0)

def quiescent_Attn16Ideal [hAttn16Ideal : Cert.Attn16Ideal.Facts] : Prop :=
  ∀ (m : (ℓ : Loc Cert.Attn16Ideal.nD Cert.Attn16Ideal.τ Cert.Attn16Ideal.sig) → Buf (Elt Ideal) ℓ) (g : Dev Cert.Attn16Ideal.nD → PrngReg), Pre_Attn16Ideal m →
    θ_run (Cert.Attn16Ideal.defs (F := Ideal)) (onTc (τ := Cert.Attn16Ideal.τ) (Cert.Attn16Ideal.main (F := Ideal))) ⟨m, fun _ => 0, g⟩ (fun r => (∀ c : Dev Cert.Attn16Ideal.nD,
      r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0))
      ∧ r.2.sem = fun _ => 0)

def quiescent_AttnRef16Ideal [hAttnRef16Ideal : Cert.AttnRef16Ideal.Facts] : Prop :=
  ∀ (m : (ℓ : Loc Cert.AttnRef16Ideal.nD Cert.AttnRef16Ideal.τ Cert.AttnRef16Ideal.sig) → Buf (Elt Ideal) ℓ) (g : Dev Cert.AttnRef16Ideal.nD → PrngReg), Pre_AttnRef16Ideal m →
    θ_run (Cert.AttnRef16Ideal.defs (F := Ideal)) (onTc (τ := Cert.AttnRef16Ideal.τ) (Cert.AttnRef16Ideal.main (F := Ideal))) ⟨m, fun _ => 0, g⟩ (fun r => (∀ c : Dev Cert.AttnRef16Ideal.nD,
      r.2.mem ((c.tc : Thread Cert.AttnRef16Ideal.nD Cert.AttnRef16Ideal.τ).loc Cert.AttnRef16Ideal.main_arg0) = m ((c.tc : Thread Cert.AttnRef16Ideal.nD Cert.AttnRef16Ideal.τ).loc Cert.AttnRef16Ideal.main_arg0))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ r.2.sem = fun _ => 0)

def quiescent_Qkv1RefIdeal [hQkv1RefIdeal : Cert.Qkv1RefIdeal.Facts] : Prop :=
  ∀ (m : (ℓ : Loc Cert.Qkv1RefIdeal.nD Cert.Qkv1RefIdeal.τ Cert.Qkv1RefIdeal.sig) → Buf (Elt Ideal) ℓ) (g : Dev Cert.Qkv1RefIdeal.nD → PrngReg), Pre_Qkv1RefIdeal m →
    θ_run (Cert.Qkv1RefIdeal.defs (F := Ideal)) (onTc (τ := Cert.Qkv1RefIdeal.τ) (Cert.Qkv1RefIdeal.main (F := Ideal))) ⟨m, fun _ => 0, g⟩ (fun r => (∀ c : Dev Cert.Qkv1RefIdeal.nD,
      r.2.mem ((c.tc : Thread Cert.Qkv1RefIdeal.nD Cert.Qkv1RefIdeal.τ).loc Cert.Qkv1RefIdeal.main_arg0) = m ((c.tc : Thread Cert.Qkv1RefIdeal.nD Cert.Qkv1RefIdeal.τ).loc Cert.Qkv1RefIdeal.main_arg0)
      ∧ r.2.mem ((c.tc : Thread Cert.Qkv1RefIdeal.nD Cert.Qkv1RefIdeal.τ).loc Cert.Qkv1RefIdeal.main_arg1) = m ((c.tc : Thread Cert.Qkv1RefIdeal.nD Cert.Qkv1RefIdeal.τ).loc Cert.Qkv1RefIdeal.main_arg1))
      ∧ r.2.sem = fun _ => 0)

def quiescent_Qkv4 [hQkv4 : Cert.Qkv4.Facts] : Prop :=
  ∀ (m : (ℓ : Loc Cert.Qkv4.nD Cert.Qkv4.τ Cert.Qkv4.sig) → Buf (Elt Bits) ℓ) (g : Dev Cert.Qkv4.nD → PrngReg), Pre_Qkv4 m →
    θ_run (Cert.Qkv4.defs (F := Bits)) (onTc (τ := Cert.Qkv4.τ) (Cert.Qkv4.main (F := Bits))) ⟨m, fun _ => 0, g⟩ (fun r => (∀ c : Dev Cert.Qkv4.nD,
      r.2.mem ((c.tc : Thread Cert.Qkv4.nD Cert.Qkv4.τ).loc Cert.Qkv4.main_arg0) = m ((c.tc : Thread Cert.Qkv4.nD Cert.Qkv4.τ).loc Cert.Qkv4.main_arg0)
      ∧ r.2.mem ((c.tc : Thread Cert.Qkv4.nD Cert.Qkv4.τ).loc Cert.Qkv4.main_arg1) = m ((c.tc : Thread Cert.Qkv4.nD Cert.Qkv4.τ).loc Cert.Qkv4.main_arg1))
      ∧ r.2.sem = fun _ => 0)

def quiescent_Qkv4Ideal [hQkv4Ideal : Cert.Qkv4Ideal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg), Pre_Qkv4Ideal m →
    θ_run (Cert.Qkv4Ideal.defs (F := Ideal)) (onTc (τ := Cert.Qkv4Ideal.τ) (Cert.Qkv4Ideal.main (F := Ideal))) ⟨m, fun _ => 0, g⟩ (fun r => (∀ c : Dev Cert.Qkv4Ideal.nD,
      r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
      ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1))
      ∧ r.2.sem = fun _ => 0)

def quiescent_Qkv4RefIdeal [hQkv4RefIdeal : Cert.Qkv4RefIdeal.Facts] : Prop :=
  ∀ (m : (ℓ : Loc Cert.Qkv4RefIdeal.nD Cert.Qkv4RefIdeal.τ Cert.Qkv4RefIdeal.sig) → Buf (Elt Ideal) ℓ) (g : Dev Cert.Qkv4RefIdeal.nD → PrngReg), Pre_Qkv4RefIdeal m →
    θ_run (Cert.Qkv4RefIdeal.defs (F := Ideal)) (onTc (τ := Cert.Qkv4RefIdeal.τ) (Cert.Qkv4RefIdeal.main (F := Ideal))) ⟨m, fun _ => 0, g⟩ (fun r => (∀ c : Dev Cert.Qkv4RefIdeal.nD,
      r.2.mem ((c.tc : Thread Cert.Qkv4RefIdeal.nD Cert.Qkv4RefIdeal.τ).loc Cert.Qkv4RefIdeal.main_arg0) = m ((c.tc : Thread Cert.Qkv4RefIdeal.nD Cert.Qkv4RefIdeal.τ).loc Cert.Qkv4RefIdeal.main_arg0)
      ∧ r.2.mem ((c.tc : Thread Cert.Qkv4RefIdeal.nD Cert.Qkv4RefIdeal.τ).loc Cert.Qkv4RefIdeal.main_arg1) = m ((c.tc : Thread Cert.Qkv4RefIdeal.nD Cert.Qkv4RefIdeal.τ).loc Cert.Qkv4RefIdeal.main_arg1))
      ∧ r.2.sem = fun _ => 0)

def quiescent_Qkv16 [hQkv16 : Cert.Qkv16.Facts] : Prop :=
  ∀ (m : (ℓ : Loc Cert.Qkv16.nD Cert.Qkv16.τ Cert.Qkv16.sig) → Buf (Elt Bits) ℓ) (g : Dev Cert.Qkv16.nD → PrngReg), Pre_Qkv16 m →
    θ_run (Cert.Qkv16.defs (F := Bits)) (onTc (τ := Cert.Qkv16.τ) (Cert.Qkv16.main (F := Bits))) ⟨m, fun _ => 0, g⟩ (fun r => (∀ c : Dev Cert.Qkv16.nD,
      r.2.mem ((c.tc : Thread Cert.Qkv16.nD Cert.Qkv16.τ).loc Cert.Qkv16.main_arg0) = m ((c.tc : Thread Cert.Qkv16.nD Cert.Qkv16.τ).loc Cert.Qkv16.main_arg0)
      ∧ r.2.mem ((c.tc : Thread Cert.Qkv16.nD Cert.Qkv16.τ).loc Cert.Qkv16.main_arg1) = m ((c.tc : Thread Cert.Qkv16.nD Cert.Qkv16.τ).loc Cert.Qkv16.main_arg1))
      ∧ r.2.sem = fun _ => 0)

def quiescent_Qkv16Ideal [hQkv16Ideal : Cert.Qkv16Ideal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg), Pre_Qkv16Ideal m →
    θ_run (Cert.Qkv16Ideal.defs (F := Ideal)) (onTc (τ := Cert.Qkv16Ideal.τ) (Cert.Qkv16Ideal.main (F := Ideal))) ⟨m, fun _ => 0, g⟩ (fun r => (∀ c : Dev Cert.Qkv16Ideal.nD,
      r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
      ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1))
      ∧ r.2.sem = fun _ => 0)

def quiescent_Qkv16RefIdeal [hQkv16RefIdeal : Cert.Qkv16RefIdeal.Facts] : Prop :=
  ∀ (m : (ℓ : Loc Cert.Qkv16RefIdeal.nD Cert.Qkv16RefIdeal.τ Cert.Qkv16RefIdeal.sig) → Buf (Elt Ideal) ℓ) (g : Dev Cert.Qkv16RefIdeal.nD → PrngReg), Pre_Qkv16RefIdeal m →
    θ_run (Cert.Qkv16RefIdeal.defs (F := Ideal)) (onTc (τ := Cert.Qkv16RefIdeal.τ) (Cert.Qkv16RefIdeal.main (F := Ideal))) ⟨m, fun _ => 0, g⟩ (fun r => (∀ c : Dev Cert.Qkv16RefIdeal.nD,
      r.2.mem ((c.tc : Thread Cert.Qkv16RefIdeal.nD Cert.Qkv16RefIdeal.τ).loc Cert.Qkv16RefIdeal.main_arg0) = m ((c.tc : Thread Cert.Qkv16RefIdeal.nD Cert.Qkv16RefIdeal.τ).loc Cert.Qkv16RefIdeal.main_arg0)
      ∧ r.2.mem ((c.tc : Thread Cert.Qkv16RefIdeal.nD Cert.Qkv16RefIdeal.τ).loc Cert.Qkv16RefIdeal.main_arg1) = m ((c.tc : Thread Cert.Qkv16RefIdeal.nD Cert.Qkv16RefIdeal.τ).loc Cert.Qkv16RefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_FourierOut [hFourierOut : Cert.FourierOut.Facts] : Prop :=
  ∀ (m : (ℓ : Loc Cert.FourierOut.nD Cert.FourierOut.τ Cert.FourierOut.sig) → Buf (Elt Bits) ℓ) (g : Dev Cert.FourierOut.nD → PrngReg), Pre_FourierOut m →
    θ_run (Cert.FourierOut.defs (F := Bits)) (onTc (τ := Cert.FourierOut.τ) (Cert.FourierOut.main (F := Bits))) ⟨m, fun _ => 0, g⟩ (fun r => (∀ c : Dev Cert.FourierOut.nD,
      r.2.mem ((c.tc : Thread Cert.FourierOut.nD Cert.FourierOut.τ).loc Cert.FourierOut.main_arg0) = m ((c.tc : Thread Cert.FourierOut.nD Cert.FourierOut.τ).loc Cert.FourierOut.main_arg0)
      ∧ r.2.mem ((c.tc : Thread Cert.FourierOut.nD Cert.FourierOut.τ).loc Cert.FourierOut.main_arg1) = m ((c.tc : Thread Cert.FourierOut.nD Cert.FourierOut.τ).loc Cert.FourierOut.main_arg1)
      ∧ r.2.mem ((c.tc : Thread Cert.FourierOut.nD Cert.FourierOut.τ).loc Cert.FourierOut.main_arg2) = m ((c.tc : Thread Cert.FourierOut.nD Cert.FourierOut.τ).loc Cert.FourierOut.main_arg2)
      ∧ r.2.mem ((c.tc : Thread Cert.FourierOut.nD Cert.FourierOut.τ).loc Cert.FourierOut.main_arg3) = m ((c.tc : Thread Cert.FourierOut.nD Cert.FourierOut.τ).loc Cert.FourierOut.main_arg3))
      ∧ r.2.sem = fun _ => 0)

def quiescent_FourierOutIdeal [hFourierOutIdeal : Cert.FourierOutIdeal.Facts] : Prop :=
  ∀ (m : (ℓ : Loc Cert.FourierOutIdeal.nD Cert.FourierOutIdeal.τ Cert.FourierOutIdeal.sig) → Buf (Elt Ideal) ℓ) (g : Dev Cert.FourierOutIdeal.nD → PrngReg), Pre_FourierOutIdeal m →
    θ_run (Cert.FourierOutIdeal.defs (F := Ideal)) (onTc (τ := Cert.FourierOutIdeal.τ) (Cert.FourierOutIdeal.main (F := Ideal))) ⟨m, fun _ => 0, g⟩ (fun r => (∀ c : Dev Cert.FourierOutIdeal.nD,
      r.2.mem ((c.tc : Thread Cert.FourierOutIdeal.nD Cert.FourierOutIdeal.τ).loc Cert.FourierOutIdeal.main_arg0) = m ((c.tc : Thread Cert.FourierOutIdeal.nD Cert.FourierOutIdeal.τ).loc Cert.FourierOutIdeal.main_arg0)
      ∧ r.2.mem ((c.tc : Thread Cert.FourierOutIdeal.nD Cert.FourierOutIdeal.τ).loc Cert.FourierOutIdeal.main_arg1) = m ((c.tc : Thread Cert.FourierOutIdeal.nD Cert.FourierOutIdeal.τ).loc Cert.FourierOutIdeal.main_arg1)
      ∧ r.2.mem ((c.tc : Thread Cert.FourierOutIdeal.nD Cert.FourierOutIdeal.τ).loc Cert.FourierOutIdeal.main_arg2) = m ((c.tc : Thread Cert.FourierOutIdeal.nD Cert.FourierOutIdeal.τ).loc Cert.FourierOutIdeal.main_arg2)
      ∧ r.2.mem ((c.tc : Thread Cert.FourierOutIdeal.nD Cert.FourierOutIdeal.τ).loc Cert.FourierOutIdeal.main_arg3) = m ((c.tc : Thread Cert.FourierOutIdeal.nD Cert.FourierOutIdeal.τ).loc Cert.FourierOutIdeal.main_arg3))
      ∧ r.2.sem = fun _ => 0)

def quiescent_FourierOutRefIdeal [hFourierOutRefIdeal : Cert.FourierOutRefIdeal.Facts] : Prop :=
  ∀ (m : (ℓ : Loc Cert.FourierOutRefIdeal.nD Cert.FourierOutRefIdeal.τ Cert.FourierOutRefIdeal.sig) → Buf (Elt Ideal) ℓ) (g : Dev Cert.FourierOutRefIdeal.nD → PrngReg), Pre_FourierOutRefIdeal m →
    θ_run (Cert.FourierOutRefIdeal.defs (F := Ideal)) (onTc (τ := Cert.FourierOutRefIdeal.τ) (Cert.FourierOutRefIdeal.main (F := Ideal))) ⟨m, fun _ => 0, g⟩ (fun r => (∀ c : Dev Cert.FourierOutRefIdeal.nD,
      r.2.mem ((c.tc : Thread Cert.FourierOutRefIdeal.nD Cert.FourierOutRefIdeal.τ).loc Cert.FourierOutRefIdeal.main_arg0) = m ((c.tc : Thread Cert.FourierOutRefIdeal.nD Cert.FourierOutRefIdeal.τ).loc Cert.FourierOutRefIdeal.main_arg0)
      ∧ r.2.mem ((c.tc : Thread Cert.FourierOutRefIdeal.nD Cert.FourierOutRefIdeal.τ).loc Cert.FourierOutRefIdeal.main_arg1) = m ((c.tc : Thread Cert.FourierOutRefIdeal.nD Cert.FourierOutRefIdeal.τ).loc Cert.FourierOutRefIdeal.main_arg1)
      ∧ r.2.mem ((c.tc : Thread Cert.FourierOutRefIdeal.nD Cert.FourierOutRefIdeal.τ).loc Cert.FourierOutRefIdeal.main_arg2) = m ((c.tc : Thread Cert.FourierOutRefIdeal.nD Cert.FourierOutRefIdeal.τ).loc Cert.FourierOutRefIdeal.main_arg2)
      ∧ r.2.mem ((c.tc : Thread Cert.FourierOutRefIdeal.nD Cert.FourierOutRefIdeal.τ).loc Cert.FourierOutRefIdeal.main_arg3) = m ((c.tc : Thread Cert.FourierOutRefIdeal.nD Cert.FourierOutRefIdeal.τ).loc Cert.FourierOutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleRefIdeal [hNormSampleRefIdeal : Cert.NormSampleRefIdeal.Facts] : Prop :=
  ∀ (m : (ℓ : Loc Cert.NormSampleRefIdeal.nD Cert.NormSampleRefIdeal.τ Cert.NormSampleRefIdeal.sig) → Buf (Elt Ideal) ℓ) (g : Dev Cert.NormSampleRefIdeal.nD → PrngReg), Pre_NormSampleRefIdeal m →
    θ_run (Cert.NormSampleRefIdeal.defs (F := Ideal)) (onTc (τ := Cert.NormSampleRefIdeal.τ) (Cert.NormSampleRefIdeal.main (F := Ideal))) ⟨m, fun _ => 0, g⟩ (fun r => (∀ c : Dev Cert.NormSampleRefIdeal.nD,
      r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
      ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1))
      ∧ r.2.sem = fun _ => 0)

def quiescent_DftSeq [hDftSeq : Cert.DftSeq.Facts] : Prop :=
  ∀ (m : (ℓ : Loc Cert.DftSeq.nD Cert.DftSeq.τ Cert.DftSeq.sig) → Buf (Elt Bits) ℓ) (g : Dev Cert.DftSeq.nD → PrngReg), Pre_DftSeq m →
    θ_run (Cert.DftSeq.defs (F := Bits)) (onTc (τ := Cert.DftSeq.τ) (Cert.DftSeq.main (F := Bits))) ⟨m, fun _ => 0, g⟩ (fun r => (∀ c : Dev Cert.DftSeq.nD,
      r.2.mem ((c.tc : Thread Cert.DftSeq.nD Cert.DftSeq.τ).loc Cert.DftSeq.main_arg0) = m ((c.tc : Thread Cert.DftSeq.nD Cert.DftSeq.τ).loc Cert.DftSeq.main_arg0)
      ∧ r.2.mem ((c.tc : Thread Cert.DftSeq.nD Cert.DftSeq.τ).loc Cert.DftSeq.main_arg1) = m ((c.tc : Thread Cert.DftSeq.nD Cert.DftSeq.τ).loc Cert.DftSeq.main_arg1))
      ∧ r.2.sem = fun _ => 0)

def quiescent_DftSeqIdeal [hDftSeqIdeal : Cert.DftSeqIdeal.Facts] : Prop :=
  ∀ (m : (ℓ : Loc Cert.DftSeqIdeal.nD Cert.DftSeqIdeal.τ Cert.DftSeqIdeal.sig) → Buf (Elt Ideal) ℓ) (g : Dev Cert.DftSeqIdeal.nD → PrngReg), Pre_DftSeqIdeal m →
    θ_run (Cert.DftSeqIdeal.defs (F := Ideal)) (onTc (τ := Cert.DftSeqIdeal.τ) (Cert.DftSeqIdeal.main (F := Ideal))) ⟨m, fun _ => 0, g⟩ (fun r => (∀ c : Dev Cert.DftSeqIdeal.nD,
      r.2.mem ((c.tc : Thread Cert.DftSeqIdeal.nD Cert.DftSeqIdeal.τ).loc Cert.DftSeqIdeal.main_arg0) = m ((c.tc : Thread Cert.DftSeqIdeal.nD Cert.DftSeqIdeal.τ).loc Cert.DftSeqIdeal.main_arg0)
      ∧ r.2.mem ((c.tc : Thread Cert.DftSeqIdeal.nD Cert.DftSeqIdeal.τ).loc Cert.DftSeqIdeal.main_arg1) = m ((c.tc : Thread Cert.DftSeqIdeal.nD Cert.DftSeqIdeal.τ).loc Cert.DftSeqIdeal.main_arg1))
      ∧ r.2.sem = fun _ => 0)

def quiescent_DftSeqRefIdeal [hDftSeqRefIdeal : Cert.DftSeqRefIdeal.Facts] : Prop :=
  ∀ (m : (ℓ : Loc Cert.DftSeqRefIdeal.nD Cert.DftSeqRefIdeal.τ Cert.DftSeqRefIdeal.sig) → Buf (Elt Ideal) ℓ) (g : Dev Cert.DftSeqRefIdeal.nD → PrngReg), Pre_DftSeqRefIdeal m →
    θ_run (Cert.DftSeqRefIdeal.defs (F := Ideal)) (onTc (τ := Cert.DftSeqRefIdeal.τ) (Cert.DftSeqRefIdeal.main (F := Ideal))) ⟨m, fun _ => 0, g⟩ (fun r => (∀ c : Dev Cert.DftSeqRefIdeal.nD,
      r.2.mem ((c.tc : Thread Cert.DftSeqRefIdeal.nD Cert.DftSeqRefIdeal.τ).loc Cert.DftSeqRefIdeal.main_arg0) = m ((c.tc : Thread Cert.DftSeqRefIdeal.nD Cert.DftSeqRefIdeal.τ).loc Cert.DftSeqRefIdeal.main_arg0)
      ∧ r.2.mem ((c.tc : Thread Cert.DftSeqRefIdeal.nD Cert.DftSeqRefIdeal.τ).loc Cert.DftSeqRefIdeal.main_arg1) = m ((c.tc : Thread Cert.DftSeqRefIdeal.nD Cert.DftSeqRefIdeal.τ).loc Cert.DftSeqRefIdeal.main_arg1))
      ∧ r.2.sem = fun _ => 0)

def quiescent_DftChannel [hDftChannel : Cert.DftChannel.Facts] : Prop :=
  ∀ (m : (ℓ : Loc Cert.DftChannel.nD Cert.DftChannel.τ Cert.DftChannel.sig) → Buf (Elt Bits) ℓ) (g : Dev Cert.DftChannel.nD → PrngReg), Pre_DftChannel m →
    θ_run (Cert.DftChannel.defs (F := Bits)) (onTc (τ := Cert.DftChannel.τ) (Cert.DftChannel.main (F := Bits))) ⟨m, fun _ => 0, g⟩ (fun r => (∀ c : Dev Cert.DftChannel.nD,
      r.2.mem ((c.tc : Thread Cert.DftChannel.nD Cert.DftChannel.τ).loc Cert.DftChannel.main_arg0) = m ((c.tc : Thread Cert.DftChannel.nD Cert.DftChannel.τ).loc Cert.DftChannel.main_arg0)
      ∧ r.2.mem ((c.tc : Thread Cert.DftChannel.nD Cert.DftChannel.τ).loc Cert.DftChannel.main_arg1) = m ((c.tc : Thread Cert.DftChannel.nD Cert.DftChannel.τ).loc Cert.DftChannel.main_arg1))
      ∧ r.2.sem = fun _ => 0)

def quiescent_DftChannelIdeal [hDftChannelIdeal : Cert.DftChannelIdeal.Facts] : Prop :=
  ∀ (m : (ℓ : Loc Cert.DftChannelIdeal.nD Cert.DftChannelIdeal.τ Cert.DftChannelIdeal.sig) → Buf (Elt Ideal) ℓ) (g : Dev Cert.DftChannelIdeal.nD → PrngReg), Pre_DftChannelIdeal m →
    θ_run (Cert.DftChannelIdeal.defs (F := Ideal)) (onTc (τ := Cert.DftChannelIdeal.τ) (Cert.DftChannelIdeal.main (F := Ideal))) ⟨m, fun _ => 0, g⟩ (fun r => (∀ c : Dev Cert.DftChannelIdeal.nD,
      r.2.mem ((c.tc : Thread Cert.DftChannelIdeal.nD Cert.DftChannelIdeal.τ).loc Cert.DftChannelIdeal.main_arg0) = m ((c.tc : Thread Cert.DftChannelIdeal.nD Cert.DftChannelIdeal.τ).loc Cert.DftChannelIdeal.main_arg0)
      ∧ r.2.mem ((c.tc : Thread Cert.DftChannelIdeal.nD Cert.DftChannelIdeal.τ).loc Cert.DftChannelIdeal.main_arg1) = m ((c.tc : Thread Cert.DftChannelIdeal.nD Cert.DftChannelIdeal.τ).loc Cert.DftChannelIdeal.main_arg1))
      ∧ r.2.sem = fun _ => 0)

def quiescent_DftChannelRefIdeal [hDftChannelRefIdeal : Cert.DftChannelRefIdeal.Facts] : Prop :=
  ∀ (m : (ℓ : Loc Cert.DftChannelRefIdeal.nD Cert.DftChannelRefIdeal.τ Cert.DftChannelRefIdeal.sig) → Buf (Elt Ideal) ℓ) (g : Dev Cert.DftChannelRefIdeal.nD → PrngReg), Pre_DftChannelRefIdeal m →
    θ_run (Cert.DftChannelRefIdeal.defs (F := Ideal)) (onTc (τ := Cert.DftChannelRefIdeal.τ) (Cert.DftChannelRefIdeal.main (F := Ideal))) ⟨m, fun _ => 0, g⟩ (fun r => (∀ c : Dev Cert.DftChannelRefIdeal.nD,
      r.2.mem ((c.tc : Thread Cert.DftChannelRefIdeal.nD Cert.DftChannelRefIdeal.τ).loc Cert.DftChannelRefIdeal.main_arg0) = m ((c.tc : Thread Cert.DftChannelRefIdeal.nD Cert.DftChannelRefIdeal.τ).loc Cert.DftChannelRefIdeal.main_arg0)
      ∧ r.2.mem ((c.tc : Thread Cert.DftChannelRefIdeal.nD Cert.DftChannelRefIdeal.τ).loc Cert.DftChannelRefIdeal.main_arg1) = m ((c.tc : Thread Cert.DftChannelRefIdeal.nD Cert.DftChannelRefIdeal.τ).loc Cert.DftChannelRefIdeal.main_arg1))
      ∧ r.2.sem = fun _ => 0)

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v9) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v6) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_Attn16_Attn16Ideal : Prop :=
  IdealRules.named_const.Statement Cert.Attn16Ideal.κ "mask" .f32 0xF149F2CA#32 ⊥

def algebraic_Attn16Ideal_AttnRef16Ideal [hAttn16Ideal : Cert.Attn16Ideal.Facts] [hAttnRef16Ideal : Cert.AttnRef16Ideal.Facts] : Prop :=
  ∀ (m : (ℓ : Loc Cert.Attn16Ideal.nD Cert.Attn16Ideal.τ Cert.Attn16Ideal.sig) → Buf (Elt Ideal) ℓ) (g : Dev Cert.Attn16Ideal.nD → PrngReg)
    (m' : (ℓ : Loc Cert.AttnRef16Ideal.nD Cert.AttnRef16Ideal.τ Cert.AttnRef16Ideal.sig) → Buf (Elt Ideal) ℓ) (g' : Dev Cert.AttnRef16Ideal.nD → PrngReg), Pre_Attn16Ideal m →
    (∀ c : Dev Cert.Attn16Ideal.nD,
      m' ((c.tc : Thread Cert.AttnRef16Ideal.nD Cert.AttnRef16Ideal.τ).loc Cert.AttnRef16Ideal.main_arg0) = m ((c.tc : Thread Cert.Attn16Ideal.nD Cert.Attn16Ideal.τ).loc Cert.Attn16Ideal.main_arg0)) →
    ∃ (v0 : (c : Dev Cert.Attn16Ideal.nD) → Buf (Elt Ideal) ((c.tc : Thread Cert.Attn16Ideal.nD Cert.Attn16Ideal.τ).loc Cert.Attn16Ideal.main_v0_0)) (v1 : (c : Dev Cert.Attn16Ideal.nD) → Buf (Elt Ideal) ((c.tc : Thread Cert.Attn16Ideal.nD Cert.Attn16Ideal.τ).loc Cert.Attn16Ideal.main_v0_1)),
      θ_run (Cert.Attn16Ideal.defs (F := Ideal)) (onTc (τ := Cert.Attn16Ideal.τ) (Cert.Attn16Ideal.main (F := Ideal))) ⟨m, fun _ => 0, g⟩ (fun r => ∀ c : Dev Cert.Attn16Ideal.nD,
          r.2.mem ((c.tc : Thread Cert.Attn16Ideal.nD Cert.Attn16Ideal.τ).loc Cert.Attn16Ideal.main_v0_0) = v0 c
          ∧ r.2.mem ((c.tc : Thread Cert.Attn16Ideal.nD Cert.Attn16Ideal.τ).loc Cert.Attn16Ideal.main_v0_1) = v1 c
          ∧ r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0))
      ∧ θ_run (Cert.AttnRef16Ideal.defs (F := Ideal)) (onTc (τ := Cert.AttnRef16Ideal.τ) (Cert.AttnRef16Ideal.main (F := Ideal))) ⟨m', fun _ => 0, g'⟩ (fun r => ∀ c : Dev Cert.AttnRef16Ideal.nD,
          r.2.mem ((c.tc : Thread Cert.AttnRef16Ideal.nD Cert.AttnRef16Ideal.τ).loc Cert.AttnRef16Ideal.main_v35) = v0 c
          ∧ r.2.mem ((c.tc : Thread Cert.AttnRef16Ideal.nD Cert.AttnRef16Ideal.τ).loc Cert.AttnRef16Ideal.main_v37) = v1 c
          ∧ r.2.mem ((c.tc : Thread Cert.AttnRef16Ideal.nD Cert.AttnRef16Ideal.τ).loc Cert.AttnRef16Ideal.main_arg0) = m' ((c.tc : Thread Cert.AttnRef16Ideal.nD Cert.AttnRef16Ideal.τ).loc Cert.AttnRef16Ideal.main_arg0))

def preserves_Qkv1_Qkv1Ideal : Prop :=
  True

def algebraic_Qkv1Ideal_Qkv1RefIdeal [hQkv1Ideal : Cert.Qkv1Ideal.Facts] [hQkv1RefIdeal : Cert.Qkv1RefIdeal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.Qkv1RefIdeal.nD Cert.Qkv1RefIdeal.τ Cert.Qkv1RefIdeal.sig) → Buf (Elt Ideal) ℓ) (g' : Dev Cert.Qkv1RefIdeal.nD → PrngReg), Pre_Qkv1Ideal m →
    (∀ c : Dev Cert.Qkv1Ideal.nD,
      m' ((c.tc : Thread Cert.Qkv1RefIdeal.nD Cert.Qkv1RefIdeal.τ).loc Cert.Qkv1RefIdeal.main_arg0) = m ((c.tc : Thread Cert.Qkv1Ideal.nD Cert.Qkv1Ideal.τ).loc Cert.Qkv1Ideal.main_arg0)
      ∧ m' ((c.tc : Thread Cert.Qkv1RefIdeal.nD Cert.Qkv1RefIdeal.τ).loc Cert.Qkv1RefIdeal.main_arg1) = m ((c.tc : Thread Cert.Qkv1Ideal.nD Cert.Qkv1Ideal.τ).loc Cert.Qkv1Ideal.main_arg1)) →
    ∃ (v0 : (c : Dev Cert.Qkv1Ideal.nD) → Buf (Elt Ideal) ((c.tc : Thread Cert.Qkv1Ideal.nD Cert.Qkv1Ideal.τ).loc Cert.Qkv1Ideal.main_v38)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v38) = v0 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ θ_run (Cert.Qkv1RefIdeal.defs (F := Ideal)) (onTc (τ := Cert.Qkv1RefIdeal.τ) (Cert.Qkv1RefIdeal.main (F := Ideal))) ⟨m', fun _ => 0, g'⟩ (fun r => ∀ c : Dev Cert.Qkv1RefIdeal.nD,
          r.2.mem ((c.tc : Thread Cert.Qkv1RefIdeal.nD Cert.Qkv1RefIdeal.τ).loc Cert.Qkv1RefIdeal.main_v89) = v0 c
          ∧ r.2.mem ((c.tc : Thread Cert.Qkv1RefIdeal.nD Cert.Qkv1RefIdeal.τ).loc Cert.Qkv1RefIdeal.main_arg0) = m' ((c.tc : Thread Cert.Qkv1RefIdeal.nD Cert.Qkv1RefIdeal.τ).loc Cert.Qkv1RefIdeal.main_arg0)
          ∧ r.2.mem ((c.tc : Thread Cert.Qkv1RefIdeal.nD Cert.Qkv1RefIdeal.τ).loc Cert.Qkv1RefIdeal.main_arg1) = m' ((c.tc : Thread Cert.Qkv1RefIdeal.nD Cert.Qkv1RefIdeal.τ).loc Cert.Qkv1RefIdeal.main_arg1))

def preserves_Qkv4_Qkv4Ideal : Prop :=
  True

def algebraic_Qkv4Ideal_Qkv4RefIdeal [hQkv4Ideal : Cert.Qkv4Ideal.Facts] [hQkv4RefIdeal : Cert.Qkv4RefIdeal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg)
    (m' : (ℓ : Loc Cert.Qkv4RefIdeal.nD Cert.Qkv4RefIdeal.τ Cert.Qkv4RefIdeal.sig) → Buf (Elt Ideal) ℓ) (g' : Dev Cert.Qkv4RefIdeal.nD → PrngReg), Pre_Qkv4Ideal m →
    (∀ c : Dev Cert.Qkv4Ideal.nD,
      m' ((c.tc : Thread Cert.Qkv4RefIdeal.nD Cert.Qkv4RefIdeal.τ).loc Cert.Qkv4RefIdeal.main_arg0) = m ((c.tc : Thread Cert.Qkv4Ideal.nD Cert.Qkv4Ideal.τ).loc Cert.Qkv4Ideal.main_arg0)
      ∧ m' ((c.tc : Thread Cert.Qkv4RefIdeal.nD Cert.Qkv4RefIdeal.τ).loc Cert.Qkv4RefIdeal.main_arg1) = m ((c.tc : Thread Cert.Qkv4Ideal.nD Cert.Qkv4Ideal.τ).loc Cert.Qkv4Ideal.main_arg1)) →
    ∃ (v0 : (c : Dev Cert.Qkv4Ideal.nD) → Buf (Elt Ideal) ((c.tc : Thread Cert.Qkv4Ideal.nD Cert.Qkv4Ideal.τ).loc Cert.Qkv4Ideal.main_v46)),
      θ_run (Cert.Qkv4Ideal.defs (F := Ideal)) (onTc (τ := Cert.Qkv4Ideal.τ) (Cert.Qkv4Ideal.main (F := Ideal))) ⟨m, fun _ => 0, g⟩ (fun r => ∀ c : Dev Cert.Qkv4Ideal.nD,
          r.2.mem ((c.tc : Thread Cert.Qkv4Ideal.nD Cert.Qkv4Ideal.τ).loc Cert.Qkv4Ideal.main_v46) = v0 c
          ∧ r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
          ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1))
      ∧ θ_run (Cert.Qkv4RefIdeal.defs (F := Ideal)) (onTc (τ := Cert.Qkv4RefIdeal.τ) (Cert.Qkv4RefIdeal.main (F := Ideal))) ⟨m', fun _ => 0, g'⟩ (fun r => ∀ c : Dev Cert.Qkv4RefIdeal.nD,
          r.2.mem ((c.tc : Thread Cert.Qkv4RefIdeal.nD Cert.Qkv4RefIdeal.τ).loc Cert.Qkv4RefIdeal.main_v89) = v0 c
          ∧ r.2.mem ((c.tc : Thread Cert.Qkv4RefIdeal.nD Cert.Qkv4RefIdeal.τ).loc Cert.Qkv4RefIdeal.main_arg0) = m' ((c.tc : Thread Cert.Qkv4RefIdeal.nD Cert.Qkv4RefIdeal.τ).loc Cert.Qkv4RefIdeal.main_arg0)
          ∧ r.2.mem ((c.tc : Thread Cert.Qkv4RefIdeal.nD Cert.Qkv4RefIdeal.τ).loc Cert.Qkv4RefIdeal.main_arg1) = m' ((c.tc : Thread Cert.Qkv4RefIdeal.nD Cert.Qkv4RefIdeal.τ).loc Cert.Qkv4RefIdeal.main_arg1))

def preserves_Qkv16_Qkv16Ideal : Prop :=
  True

def algebraic_Qkv16Ideal_Qkv16RefIdeal [hQkv16Ideal : Cert.Qkv16Ideal.Facts] [hQkv16RefIdeal : Cert.Qkv16RefIdeal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg)
    (m' : (ℓ : Loc Cert.Qkv16RefIdeal.nD Cert.Qkv16RefIdeal.τ Cert.Qkv16RefIdeal.sig) → Buf (Elt Ideal) ℓ) (g' : Dev Cert.Qkv16RefIdeal.nD → PrngReg), Pre_Qkv16Ideal m →
    (∀ c : Dev Cert.Qkv16Ideal.nD,
      m' ((c.tc : Thread Cert.Qkv16RefIdeal.nD Cert.Qkv16RefIdeal.τ).loc Cert.Qkv16RefIdeal.main_arg0) = m ((c.tc : Thread Cert.Qkv16Ideal.nD Cert.Qkv16Ideal.τ).loc Cert.Qkv16Ideal.main_arg0)
      ∧ m' ((c.tc : Thread Cert.Qkv16RefIdeal.nD Cert.Qkv16RefIdeal.τ).loc Cert.Qkv16RefIdeal.main_arg1) = m ((c.tc : Thread Cert.Qkv16Ideal.nD Cert.Qkv16Ideal.τ).loc Cert.Qkv16Ideal.main_arg1)) →
    ∃ (v0 : (c : Dev Cert.Qkv16Ideal.nD) → Buf (Elt Ideal) ((c.tc : Thread Cert.Qkv16Ideal.nD Cert.Qkv16Ideal.τ).loc Cert.Qkv16Ideal.main_v46)),
      θ_run (Cert.Qkv16Ideal.defs (F := Ideal)) (onTc (τ := Cert.Qkv16Ideal.τ) (Cert.Qkv16Ideal.main (F := Ideal))) ⟨m, fun _ => 0, g⟩ (fun r => ∀ c : Dev Cert.Qkv16Ideal.nD,
          r.2.mem ((c.tc : Thread Cert.Qkv16Ideal.nD Cert.Qkv16Ideal.τ).loc Cert.Qkv16Ideal.main_v46) = v0 c
          ∧ r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
          ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1))
      ∧ θ_run (Cert.Qkv16RefIdeal.defs (F := Ideal)) (onTc (τ := Cert.Qkv16RefIdeal.τ) (Cert.Qkv16RefIdeal.main (F := Ideal))) ⟨m', fun _ => 0, g'⟩ (fun r => ∀ c : Dev Cert.Qkv16RefIdeal.nD,
          r.2.mem ((c.tc : Thread Cert.Qkv16RefIdeal.nD Cert.Qkv16RefIdeal.τ).loc Cert.Qkv16RefIdeal.main_v89) = v0 c
          ∧ r.2.mem ((c.tc : Thread Cert.Qkv16RefIdeal.nD Cert.Qkv16RefIdeal.τ).loc Cert.Qkv16RefIdeal.main_arg0) = m' ((c.tc : Thread Cert.Qkv16RefIdeal.nD Cert.Qkv16RefIdeal.τ).loc Cert.Qkv16RefIdeal.main_arg0)
          ∧ r.2.mem ((c.tc : Thread Cert.Qkv16RefIdeal.nD Cert.Qkv16RefIdeal.τ).loc Cert.Qkv16RefIdeal.main_arg1) = m' ((c.tc : Thread Cert.Qkv16RefIdeal.nD Cert.Qkv16RefIdeal.τ).loc Cert.Qkv16RefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v1) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v9) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def preserves_FourierOut_FourierOutIdeal : Prop :=
  True

def algebraic_FourierOutIdeal_FourierOutRefIdeal [hFourierOutIdeal : Cert.FourierOutIdeal.Facts] [hFourierOutRefIdeal : Cert.FourierOutRefIdeal.Facts] : Prop :=
  ∀ (m : (ℓ : Loc Cert.FourierOutIdeal.nD Cert.FourierOutIdeal.τ Cert.FourierOutIdeal.sig) → Buf (Elt Ideal) ℓ) (g : Dev Cert.FourierOutIdeal.nD → PrngReg)
    (m' : (ℓ : Loc Cert.FourierOutRefIdeal.nD Cert.FourierOutRefIdeal.τ Cert.FourierOutRefIdeal.sig) → Buf (Elt Ideal) ℓ) (g' : Dev Cert.FourierOutRefIdeal.nD → PrngReg), Pre_FourierOutIdeal m →
    (∀ c : Dev Cert.FourierOutIdeal.nD,
      m' ((c.tc : Thread Cert.FourierOutRefIdeal.nD Cert.FourierOutRefIdeal.τ).loc Cert.FourierOutRefIdeal.main_arg0) = m ((c.tc : Thread Cert.FourierOutIdeal.nD Cert.FourierOutIdeal.τ).loc Cert.FourierOutIdeal.main_arg0)
      ∧ m' ((c.tc : Thread Cert.FourierOutRefIdeal.nD Cert.FourierOutRefIdeal.τ).loc Cert.FourierOutRefIdeal.main_arg1) = m ((c.tc : Thread Cert.FourierOutIdeal.nD Cert.FourierOutIdeal.τ).loc Cert.FourierOutIdeal.main_arg1)
      ∧ m' ((c.tc : Thread Cert.FourierOutRefIdeal.nD Cert.FourierOutRefIdeal.τ).loc Cert.FourierOutRefIdeal.main_arg2) = m ((c.tc : Thread Cert.FourierOutIdeal.nD Cert.FourierOutIdeal.τ).loc Cert.FourierOutIdeal.main_arg2)
      ∧ m' ((c.tc : Thread Cert.FourierOutRefIdeal.nD Cert.FourierOutRefIdeal.τ).loc Cert.FourierOutRefIdeal.main_arg3) = m ((c.tc : Thread Cert.FourierOutIdeal.nD Cert.FourierOutIdeal.τ).loc Cert.FourierOutIdeal.main_arg3)) →
    ∃ (v0 : (c : Dev Cert.FourierOutIdeal.nD) → Buf (Elt Ideal) ((c.tc : Thread Cert.FourierOutIdeal.nD Cert.FourierOutIdeal.τ).loc Cert.FourierOutIdeal.main_v1)),
      θ_run (Cert.FourierOutIdeal.defs (F := Ideal)) (onTc (τ := Cert.FourierOutIdeal.τ) (Cert.FourierOutIdeal.main (F := Ideal))) ⟨m, fun _ => 0, g⟩ (fun r => ∀ c : Dev Cert.FourierOutIdeal.nD,
          r.2.mem ((c.tc : Thread Cert.FourierOutIdeal.nD Cert.FourierOutIdeal.τ).loc Cert.FourierOutIdeal.main_v1) = v0 c
          ∧ r.2.mem ((c.tc : Thread Cert.FourierOutIdeal.nD Cert.FourierOutIdeal.τ).loc Cert.FourierOutIdeal.main_arg0) = m ((c.tc : Thread Cert.FourierOutIdeal.nD Cert.FourierOutIdeal.τ).loc Cert.FourierOutIdeal.main_arg0)
          ∧ r.2.mem ((c.tc : Thread Cert.FourierOutIdeal.nD Cert.FourierOutIdeal.τ).loc Cert.FourierOutIdeal.main_arg1) = m ((c.tc : Thread Cert.FourierOutIdeal.nD Cert.FourierOutIdeal.τ).loc Cert.FourierOutIdeal.main_arg1)
          ∧ r.2.mem ((c.tc : Thread Cert.FourierOutIdeal.nD Cert.FourierOutIdeal.τ).loc Cert.FourierOutIdeal.main_arg2) = m ((c.tc : Thread Cert.FourierOutIdeal.nD Cert.FourierOutIdeal.τ).loc Cert.FourierOutIdeal.main_arg2)
          ∧ r.2.mem ((c.tc : Thread Cert.FourierOutIdeal.nD Cert.FourierOutIdeal.τ).loc Cert.FourierOutIdeal.main_arg3) = m ((c.tc : Thread Cert.FourierOutIdeal.nD Cert.FourierOutIdeal.τ).loc Cert.FourierOutIdeal.main_arg3))
      ∧ θ_run (Cert.FourierOutRefIdeal.defs (F := Ideal)) (onTc (τ := Cert.FourierOutRefIdeal.τ) (Cert.FourierOutRefIdeal.main (F := Ideal))) ⟨m', fun _ => 0, g'⟩ (fun r => ∀ c : Dev Cert.FourierOutRefIdeal.nD,
          r.2.mem ((c.tc : Thread Cert.FourierOutRefIdeal.nD Cert.FourierOutRefIdeal.τ).loc Cert.FourierOutRefIdeal.main_v9) = v0 c
          ∧ r.2.mem ((c.tc : Thread Cert.FourierOutRefIdeal.nD Cert.FourierOutRefIdeal.τ).loc Cert.FourierOutRefIdeal.main_arg0) = m' ((c.tc : Thread Cert.FourierOutRefIdeal.nD Cert.FourierOutRefIdeal.τ).loc Cert.FourierOutRefIdeal.main_arg0)
          ∧ r.2.mem ((c.tc : Thread Cert.FourierOutRefIdeal.nD Cert.FourierOutRefIdeal.τ).loc Cert.FourierOutRefIdeal.main_arg1) = m' ((c.tc : Thread Cert.FourierOutRefIdeal.nD Cert.FourierOutRefIdeal.τ).loc Cert.FourierOutRefIdeal.main_arg1)
          ∧ r.2.mem ((c.tc : Thread Cert.FourierOutRefIdeal.nD Cert.FourierOutRefIdeal.τ).loc Cert.FourierOutRefIdeal.main_arg2) = m' ((c.tc : Thread Cert.FourierOutRefIdeal.nD Cert.FourierOutRefIdeal.τ).loc Cert.FourierOutRefIdeal.main_arg2)
          ∧ r.2.mem ((c.tc : Thread Cert.FourierOutRefIdeal.nD Cert.FourierOutRefIdeal.τ).loc Cert.FourierOutRefIdeal.main_arg3) = m' ((c.tc : Thread Cert.FourierOutRefIdeal.nD Cert.FourierOutRefIdeal.τ).loc Cert.FourierOutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)) →
    ∃ (v0 : (c : Dev Cert.RouterIdeal.nD) → Buf (Elt Ideal) ((c.tc : Thread Cert.RouterIdeal.nD Cert.RouterIdeal.τ).loc Cert.RouterIdeal.main_v3_0)) (v1 : (c : Dev Cert.RouterIdeal.nD) → Buf (Elt Ideal) ((c.tc : Thread Cert.RouterIdeal.nD Cert.RouterIdeal.τ).loc Cert.RouterIdeal.main_v3_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v3_0) = v0 c
          ∧ r.2.mem ((c.tc : Thread Cert.RouterIdeal.nD Cert.RouterIdeal.τ).loc Cert.RouterIdeal.main_v3_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v21) = v0 c
          ∧ r.2.mem ((c.tc : Thread Cert.RouterRefIdeal.nD Cert.RouterRefIdeal.τ).loc Cert.RouterRefIdeal.main_v23) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v21) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_NormSample_NormSampleIdeal : Prop :=
  True

def algebraic_NormSampleIdeal_NormSampleRefIdeal [hNormSampleIdeal : Cert.NormSampleIdeal.Facts] [hNormSampleRefIdeal : Cert.NormSampleRefIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleRefIdeal.nD Cert.NormSampleRefIdeal.τ Cert.NormSampleRefIdeal.sig) → Buf (Elt Ideal) ℓ) (g' : Dev Cert.NormSampleRefIdeal.nD → PrngReg), Pre_NormSampleIdeal m →
    (∀ c : Dev Cert.NormSampleIdeal.nD,
      m' ((c.tc : Thread Cert.NormSampleRefIdeal.nD Cert.NormSampleRefIdeal.τ).loc Cert.NormSampleRefIdeal.main_arg0) = m ((c.tc : Thread Cert.NormSampleIdeal.nD Cert.NormSampleIdeal.τ).loc Cert.NormSampleIdeal.main_arg0)
      ∧ m' ((c.tc : Thread Cert.NormSampleRefIdeal.nD Cert.NormSampleRefIdeal.τ).loc Cert.NormSampleRefIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v1)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v1) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleRefIdeal.defs (F := Ideal)) (onTc (τ := Cert.NormSampleRefIdeal.τ) (Cert.NormSampleRefIdeal.main (F := Ideal))) ⟨m', fun _ => 0, g'⟩ (fun r => ∀ c : Dev Cert.NormSampleRefIdeal.nD,
          r.2.mem ((c.tc : Thread Cert.NormSampleRefIdeal.nD Cert.NormSampleRefIdeal.τ).loc Cert.NormSampleRefIdeal.main_v12) = v0 c
          ∧ r.2.mem ((c.tc : Thread Cert.NormSampleRefIdeal.nD Cert.NormSampleRefIdeal.τ).loc Cert.NormSampleRefIdeal.main_arg0) = m' ((c.tc : Thread Cert.NormSampleRefIdeal.nD Cert.NormSampleRefIdeal.τ).loc Cert.NormSampleRefIdeal.main_arg0)
          ∧ r.2.mem ((c.tc : Thread Cert.NormSampleRefIdeal.nD Cert.NormSampleRefIdeal.τ).loc Cert.NormSampleRefIdeal.main_arg1) = m' ((c.tc : Thread Cert.NormSampleRefIdeal.nD Cert.NormSampleRefIdeal.τ).loc Cert.NormSampleRefIdeal.main_arg1))

def preserves_DftSeq_DftSeqIdeal : Prop :=
  True

def algebraic_DftSeqIdeal_DftSeqRefIdeal [hDftSeqIdeal : Cert.DftSeqIdeal.Facts] [hDftSeqRefIdeal : Cert.DftSeqRefIdeal.Facts] : Prop :=
  ∀ (m : (ℓ : Loc Cert.DftSeqIdeal.nD Cert.DftSeqIdeal.τ Cert.DftSeqIdeal.sig) → Buf (Elt Ideal) ℓ) (g : Dev Cert.DftSeqIdeal.nD → PrngReg)
    (m' : (ℓ : Loc Cert.DftSeqRefIdeal.nD Cert.DftSeqRefIdeal.τ Cert.DftSeqRefIdeal.sig) → Buf (Elt Ideal) ℓ) (g' : Dev Cert.DftSeqRefIdeal.nD → PrngReg), Pre_DftSeqIdeal m →
    (∀ c : Dev Cert.DftSeqIdeal.nD,
      m' ((c.tc : Thread Cert.DftSeqRefIdeal.nD Cert.DftSeqRefIdeal.τ).loc Cert.DftSeqRefIdeal.main_arg0) = m ((c.tc : Thread Cert.DftSeqIdeal.nD Cert.DftSeqIdeal.τ).loc Cert.DftSeqIdeal.main_arg0)
      ∧ m' ((c.tc : Thread Cert.DftSeqRefIdeal.nD Cert.DftSeqRefIdeal.τ).loc Cert.DftSeqRefIdeal.main_arg1) = m ((c.tc : Thread Cert.DftSeqIdeal.nD Cert.DftSeqIdeal.τ).loc Cert.DftSeqIdeal.main_arg1)) →
    ∃ (v0 : (c : Dev Cert.DftSeqIdeal.nD) → Buf (Elt Ideal) ((c.tc : Thread Cert.DftSeqIdeal.nD Cert.DftSeqIdeal.τ).loc Cert.DftSeqIdeal.main_v0)),
      θ_run (Cert.DftSeqIdeal.defs (F := Ideal)) (onTc (τ := Cert.DftSeqIdeal.τ) (Cert.DftSeqIdeal.main (F := Ideal))) ⟨m, fun _ => 0, g⟩ (fun r => ∀ c : Dev Cert.DftSeqIdeal.nD,
          r.2.mem ((c.tc : Thread Cert.DftSeqIdeal.nD Cert.DftSeqIdeal.τ).loc Cert.DftSeqIdeal.main_v0) = v0 c
          ∧ r.2.mem ((c.tc : Thread Cert.DftSeqIdeal.nD Cert.DftSeqIdeal.τ).loc Cert.DftSeqIdeal.main_arg0) = m ((c.tc : Thread Cert.DftSeqIdeal.nD Cert.DftSeqIdeal.τ).loc Cert.DftSeqIdeal.main_arg0)
          ∧ r.2.mem ((c.tc : Thread Cert.DftSeqIdeal.nD Cert.DftSeqIdeal.τ).loc Cert.DftSeqIdeal.main_arg1) = m ((c.tc : Thread Cert.DftSeqIdeal.nD Cert.DftSeqIdeal.τ).loc Cert.DftSeqIdeal.main_arg1))
      ∧ θ_run (Cert.DftSeqRefIdeal.defs (F := Ideal)) (onTc (τ := Cert.DftSeqRefIdeal.τ) (Cert.DftSeqRefIdeal.main (F := Ideal))) ⟨m', fun _ => 0, g'⟩ (fun r => ∀ c : Dev Cert.DftSeqRefIdeal.nD,
          r.2.mem ((c.tc : Thread Cert.DftSeqRefIdeal.nD Cert.DftSeqRefIdeal.τ).loc Cert.DftSeqRefIdeal.main_v7) = v0 c
          ∧ r.2.mem ((c.tc : Thread Cert.DftSeqRefIdeal.nD Cert.DftSeqRefIdeal.τ).loc Cert.DftSeqRefIdeal.main_arg0) = m' ((c.tc : Thread Cert.DftSeqRefIdeal.nD Cert.DftSeqRefIdeal.τ).loc Cert.DftSeqRefIdeal.main_arg0)
          ∧ r.2.mem ((c.tc : Thread Cert.DftSeqRefIdeal.nD Cert.DftSeqRefIdeal.τ).loc Cert.DftSeqRefIdeal.main_arg1) = m' ((c.tc : Thread Cert.DftSeqRefIdeal.nD Cert.DftSeqRefIdeal.τ).loc Cert.DftSeqRefIdeal.main_arg1))

def preserves_DftChannel_DftChannelIdeal : Prop :=
  True

def algebraic_DftChannelIdeal_DftChannelRefIdeal [hDftChannelIdeal : Cert.DftChannelIdeal.Facts] [hDftChannelRefIdeal : Cert.DftChannelRefIdeal.Facts] : Prop :=
  ∀ (m : (ℓ : Loc Cert.DftChannelIdeal.nD Cert.DftChannelIdeal.τ Cert.DftChannelIdeal.sig) → Buf (Elt Ideal) ℓ) (g : Dev Cert.DftChannelIdeal.nD → PrngReg)
    (m' : (ℓ : Loc Cert.DftChannelRefIdeal.nD Cert.DftChannelRefIdeal.τ Cert.DftChannelRefIdeal.sig) → Buf (Elt Ideal) ℓ) (g' : Dev Cert.DftChannelRefIdeal.nD → PrngReg), Pre_DftChannelIdeal m →
    (∀ c : Dev Cert.DftChannelIdeal.nD,
      m' ((c.tc : Thread Cert.DftChannelRefIdeal.nD Cert.DftChannelRefIdeal.τ).loc Cert.DftChannelRefIdeal.main_arg0) = m ((c.tc : Thread Cert.DftChannelIdeal.nD Cert.DftChannelIdeal.τ).loc Cert.DftChannelIdeal.main_arg0)
      ∧ m' ((c.tc : Thread Cert.DftChannelRefIdeal.nD Cert.DftChannelRefIdeal.τ).loc Cert.DftChannelRefIdeal.main_arg1) = m ((c.tc : Thread Cert.DftChannelIdeal.nD Cert.DftChannelIdeal.τ).loc Cert.DftChannelIdeal.main_arg1)) →
    ∃ (v0 : (c : Dev Cert.DftChannelIdeal.nD) → Buf (Elt Ideal) ((c.tc : Thread Cert.DftChannelIdeal.nD Cert.DftChannelIdeal.τ).loc Cert.DftChannelIdeal.main_v0)),
      θ_run (Cert.DftChannelIdeal.defs (F := Ideal)) (onTc (τ := Cert.DftChannelIdeal.τ) (Cert.DftChannelIdeal.main (F := Ideal))) ⟨m, fun _ => 0, g⟩ (fun r => ∀ c : Dev Cert.DftChannelIdeal.nD,
          r.2.mem ((c.tc : Thread Cert.DftChannelIdeal.nD Cert.DftChannelIdeal.τ).loc Cert.DftChannelIdeal.main_v0) = v0 c
          ∧ r.2.mem ((c.tc : Thread Cert.DftChannelIdeal.nD Cert.DftChannelIdeal.τ).loc Cert.DftChannelIdeal.main_arg0) = m ((c.tc : Thread Cert.DftChannelIdeal.nD Cert.DftChannelIdeal.τ).loc Cert.DftChannelIdeal.main_arg0)
          ∧ r.2.mem ((c.tc : Thread Cert.DftChannelIdeal.nD Cert.DftChannelIdeal.τ).loc Cert.DftChannelIdeal.main_arg1) = m ((c.tc : Thread Cert.DftChannelIdeal.nD Cert.DftChannelIdeal.τ).loc Cert.DftChannelIdeal.main_arg1))
      ∧ θ_run (Cert.DftChannelRefIdeal.defs (F := Ideal)) (onTc (τ := Cert.DftChannelRefIdeal.τ) (Cert.DftChannelRefIdeal.main (F := Ideal))) ⟨m', fun _ => 0, g'⟩ (fun r => ∀ c : Dev Cert.DftChannelRefIdeal.nD,
          r.2.mem ((c.tc : Thread Cert.DftChannelRefIdeal.nD Cert.DftChannelRefIdeal.τ).loc Cert.DftChannelRefIdeal.main_v5) = v0 c
          ∧ r.2.mem ((c.tc : Thread Cert.DftChannelRefIdeal.nD Cert.DftChannelRefIdeal.τ).loc Cert.DftChannelRefIdeal.main_arg0) = m' ((c.tc : Thread Cert.DftChannelRefIdeal.nD Cert.DftChannelRefIdeal.τ).loc Cert.DftChannelRefIdeal.main_arg0)
          ∧ r.2.mem ((c.tc : Thread Cert.DftChannelRefIdeal.nD Cert.DftChannelRefIdeal.τ).loc Cert.DftChannelRefIdeal.main_arg1) = m' ((c.tc : Thread Cert.DftChannelRefIdeal.nD Cert.DftChannelRefIdeal.τ).loc Cert.DftChannelRefIdeal.main_arg1))

def Claim : Prop :=
  ∃ (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hAttn16 : Cert.Attn16.Facts) (hAttn16Ideal : Cert.Attn16Ideal.Facts) (hAttnRef16Ideal : Cert.AttnRef16Ideal.Facts) (hQkv1 : Cert.Qkv1.Facts) (hQkv1Ideal : Cert.Qkv1Ideal.Facts) (hQkv1RefIdeal : Cert.Qkv1RefIdeal.Facts) (hQkv4 : Cert.Qkv4.Facts) (hQkv4Ideal : Cert.Qkv4Ideal.Facts) (hQkv4RefIdeal : Cert.Qkv4RefIdeal.Facts) (hQkv16 : Cert.Qkv16.Facts) (hQkv16Ideal : Cert.Qkv16Ideal.Facts) (hQkv16RefIdeal : Cert.Qkv16RefIdeal.Facts) (hAttnOut : Cert.AttnOut.Facts) (hAttnOutIdeal : Cert.AttnOutIdeal.Facts) (hAttnOutRefIdeal : Cert.AttnOutRefIdeal.Facts) (hFourierOut : Cert.FourierOut.Facts) (hFourierOutIdeal : Cert.FourierOutIdeal.Facts) (hFourierOutRefIdeal : Cert.FourierOutRefIdeal.Facts) (hNorm : Cert.Norm.Facts) (hNormIdeal : Cert.NormIdeal.Facts) (hNormRefIdeal : Cert.NormRefIdeal.Facts) (hRouter : Cert.Router.Facts) (hRouterIdeal : Cert.RouterIdeal.Facts) (hRouterRefIdeal : Cert.RouterRefIdeal.Facts) (hMod : Cert.Mod.Facts) (hModIdeal : Cert.ModIdeal.Facts) (hModRefIdeal : Cert.ModRefIdeal.Facts) (hNormSample : Cert.NormSample.Facts) (hNormSampleIdeal : Cert.NormSampleIdeal.Facts) (hNormSampleRefIdeal : Cert.NormSampleRefIdeal.Facts) (hDftSeq : Cert.DftSeq.Facts) (hDftSeqIdeal : Cert.DftSeqIdeal.Facts) (hDftSeqRefIdeal : Cert.DftSeqRefIdeal.Facts) (hDftChannel : Cert.DftChannel.Facts) (hDftChannelIdeal : Cert.DftChannelIdeal.Facts) (hDftChannelRefIdeal : Cert.DftChannelRefIdeal.Facts),
    quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Attn16 (hAttn16 := hAttn16)
    ∧ quiescent_Attn16Ideal (hAttn16Ideal := hAttn16Ideal)
    ∧ quiescent_AttnRef16Ideal (hAttnRef16Ideal := hAttnRef16Ideal)
    ∧ quiescent_Qkv1 (hQkv1 := hQkv1)
    ∧ quiescent_Qkv1Ideal (hQkv1Ideal := hQkv1Ideal)
    ∧ quiescent_Qkv1RefIdeal (hQkv1RefIdeal := hQkv1RefIdeal)
    ∧ quiescent_Qkv4 (hQkv4 := hQkv4)
    ∧ quiescent_Qkv4Ideal (hQkv4Ideal := hQkv4Ideal)
    ∧ quiescent_Qkv4RefIdeal (hQkv4RefIdeal := hQkv4RefIdeal)
    ∧ quiescent_Qkv16 (hQkv16 := hQkv16)
    ∧ quiescent_Qkv16Ideal (hQkv16Ideal := hQkv16Ideal)
    ∧ quiescent_Qkv16RefIdeal (hQkv16RefIdeal := hQkv16RefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_FourierOut (hFourierOut := hFourierOut)
    ∧ quiescent_FourierOutIdeal (hFourierOutIdeal := hFourierOutIdeal)
    ∧ quiescent_FourierOutRefIdeal (hFourierOutRefIdeal := hFourierOutRefIdeal)
    ∧ quiescent_Norm (hNorm := hNorm)
    ∧ quiescent_NormIdeal (hNormIdeal := hNormIdeal)
    ∧ quiescent_NormRefIdeal (hNormRefIdeal := hNormRefIdeal)
    ∧ quiescent_Router (hRouter := hRouter)
    ∧ quiescent_RouterIdeal (hRouterIdeal := hRouterIdeal)
    ∧ quiescent_RouterRefIdeal (hRouterRefIdeal := hRouterRefIdeal)
    ∧ quiescent_Mod (hMod := hMod)
    ∧ quiescent_ModIdeal (hModIdeal := hModIdeal)
    ∧ quiescent_ModRefIdeal (hModRefIdeal := hModRefIdeal)
    ∧ quiescent_NormSample (hNormSample := hNormSample)
    ∧ quiescent_NormSampleIdeal (hNormSampleIdeal := hNormSampleIdeal)
    ∧ quiescent_NormSampleRefIdeal (hNormSampleRefIdeal := hNormSampleRefIdeal)
    ∧ quiescent_DftSeq (hDftSeq := hDftSeq)
    ∧ quiescent_DftSeqIdeal (hDftSeqIdeal := hDftSeqIdeal)
    ∧ quiescent_DftSeqRefIdeal (hDftSeqRefIdeal := hDftSeqRefIdeal)
    ∧ quiescent_DftChannel (hDftChannel := hDftChannel)
    ∧ quiescent_DftChannelIdeal (hDftChannelIdeal := hDftChannelIdeal)
    ∧ quiescent_DftChannelRefIdeal (hDftChannelRefIdeal := hDftChannelRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Attn16_Attn16Ideal
    ∧ algebraic_Attn16Ideal_AttnRef16Ideal (hAttn16Ideal := hAttn16Ideal) (hAttnRef16Ideal := hAttnRef16Ideal)
    ∧ preserves_Qkv1_Qkv1Ideal
    ∧ algebraic_Qkv1Ideal_Qkv1RefIdeal (hQkv1Ideal := hQkv1Ideal) (hQkv1RefIdeal := hQkv1RefIdeal)
    ∧ preserves_Qkv4_Qkv4Ideal
    ∧ algebraic_Qkv4Ideal_Qkv4RefIdeal (hQkv4Ideal := hQkv4Ideal) (hQkv4RefIdeal := hQkv4RefIdeal)
    ∧ preserves_Qkv16_Qkv16Ideal
    ∧ algebraic_Qkv16Ideal_Qkv16RefIdeal (hQkv16Ideal := hQkv16Ideal) (hQkv16RefIdeal := hQkv16RefIdeal)
    ∧ preserves_AttnOut_AttnOutIdeal
    ∧ algebraic_AttnOutIdeal_AttnOutRefIdeal (hAttnOutIdeal := hAttnOutIdeal) (hAttnOutRefIdeal := hAttnOutRefIdeal)
    ∧ preserves_FourierOut_FourierOutIdeal
    ∧ algebraic_FourierOutIdeal_FourierOutRefIdeal (hFourierOutIdeal := hFourierOutIdeal) (hFourierOutRefIdeal := hFourierOutRefIdeal)
    ∧ preserves_Norm_NormIdeal
    ∧ algebraic_NormIdeal_NormRefIdeal (hNormIdeal := hNormIdeal) (hNormRefIdeal := hNormRefIdeal)
    ∧ preserves_Router_RouterIdeal
    ∧ algebraic_RouterIdeal_RouterRefIdeal (hRouterIdeal := hRouterIdeal) (hRouterRefIdeal := hRouterRefIdeal)
    ∧ preserves_Mod_ModIdeal
    ∧ algebraic_ModIdeal_ModRefIdeal (hModIdeal := hModIdeal) (hModRefIdeal := hModRefIdeal)
    ∧ preserves_NormSample_NormSampleIdeal
    ∧ algebraic_NormSampleIdeal_NormSampleRefIdeal (hNormSampleIdeal := hNormSampleIdeal) (hNormSampleRefIdeal := hNormSampleRefIdeal)
    ∧ preserves_DftSeq_DftSeqIdeal
    ∧ algebraic_DftSeqIdeal_DftSeqRefIdeal (hDftSeqIdeal := hDftSeqIdeal) (hDftSeqRefIdeal := hDftSeqRefIdeal)
    ∧ preserves_DftChannel_DftChannelIdeal
    ∧ algebraic_DftChannelIdeal_DftChannelRefIdeal (hDftChannelIdeal := hDftChannelIdeal) (hDftChannelRefIdeal := hDftChannelRefIdeal)
-- ==== FfnUp.lean ====
abbrev S16x4096x2048 : Shape := ⟨3, ![16, 4096, 2048]⟩
abbrev S4x16x2048x4096 : Shape := ⟨4, ![4, 16, 2048, 4096]⟩
abbrev S16x4096x4096 : Shape := ⟨3, ![16, 4096, 4096]⟩
abbrev S1x2048x2048 : Shape := ⟨3, ![1, 2048, 2048]⟩
abbrev S1x1x2048x512 : Shape := ⟨4, ![1, 1, 2048, 512]⟩
abbrev S1x2048x512 : Shape := ⟨3, ![1, 2048, 512]⟩
abbrev S2048x2048 : Shape := ⟨2, ![2048, 2048]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S16x4096x2048, .bf16⟩
  | .hbm, ⟨1, _⟩ => ⟨S4x16x2048x4096, .f32⟩
  | .hbm, ⟨2, _⟩ => ⟨S4x16x2048x4096, .f32⟩
  | .hbm, ⟨3, _⟩ => ⟨S16x4096x4096, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x2048x512, .bf16⟩
  | .local _ .vmem, ⟨7, _⟩ => ⟨S1x2048x512, .bf16⟩
  | _, _ => ⟨S16x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FfnUpRefIdeal.lean ====
abbrev S16x4096x2048 : Shape := ⟨3, ![16, 4096, 2048]⟩
abbrev S4x16x2048x4096 : Shape := ⟨4, ![4, 16, 2048, 4096]⟩
abbrev S1x16x2048x4096 : Shape := ⟨4, ![1, 16, 2048, 4096]⟩
abbrev S16x2048x4096 : Shape := ⟨3, ![16, 2048, 4096]⟩
abbrev S16x4096x4096 : Shape := ⟨3, ![16, 4096, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x4096x2048, .bf16⟩
  | .hbm, ⟨1, _⟩ => ⟨S4x16x2048x4096, .f32⟩
  | .hbm, ⟨2, _⟩ => ⟨S4x16x2048x4096, .f32⟩
  | .hbm, ⟨3, _⟩ => ⟨S16x4096x2048, .f32⟩
  | .hbm, ⟨4, _⟩ => ⟨S1x16x2048x4096, .f32⟩
  | .hbm, ⟨5, _⟩ => ⟨S16x2048x4096, .f32⟩
  | .hbm, ⟨6, _⟩ => ⟨S16x4096x4096, .f32⟩
  | .hbm, ⟨7, _⟩ => ⟨S16x4096x4096, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S1x16x2048x4096, .f32⟩
  | .hbm, ⟨17, _⟩ => ⟨S16x2048x4096, .f32⟩
  | .hbm, ⟨18, _⟩ => ⟨S16x4096x4096, .f32⟩
  | .hbm, ⟨19, _⟩ => ⟨S16x4096x4096, .f32⟩
  | .hbm, ⟨20, _⟩ => ⟨S16x4096x4096, .bf16⟩
  | _, _ => ⟨S16x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDown.lean ====
abbrev S16x4096x4096 : Shape := ⟨3, ![16, 4096, 4096]⟩
abbrev S4x16x4096x2048 : Shape := ⟨4, ![4, 16, 4096, 2048]⟩
abbrev S16x4096x1 : Shape := ⟨3, ![16, 4096, 1]⟩
abbrev S16x4096x2048 : Shape := ⟨3, ![16, 4096, 2048]⟩
abbrev S1x2048x4096 : Shape := ⟨3, ![1, 2048, 4096]⟩
abbrev S1x1x4096x256 : Shape := ⟨4, ![1, 1, 4096, 256]⟩
abbrev S1x2048x1 : Shape := ⟨3, ![1, 2048, 1]⟩
abbrev S1x2048x256 : Shape := ⟨3, ![1, 2048, 256]⟩
abbrev S2048x4096 : Shape := ⟨2, ![2048, 4096]⟩
abbrev S4096x256 : Shape := ⟨2, ![4096, 256]⟩
abbrev S2048x256 : Shape := ⟨2, ![2048, 256]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x4096x4096, .bf16⟩
  | .hbm, ⟨1, _⟩ => ⟨S4x16x4096x2048, .f32⟩
  | .hbm, ⟨2, _⟩ => ⟨S16x4096x1, .f32⟩
  | .hbm, ⟨3, _⟩ => ⟨S16x4096x2048, .bf16⟩
  | .local _ .vmem, ⟨0, _⟩ => ⟨S1x2048x4096, .bf16⟩
  | .local _ .vmem, ⟨1, _⟩ => ⟨S1x2048x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x2048x1, .f32⟩
  | .local _ .vmem, ⟨5, _⟩ => ⟨S1x2048x1, .f32⟩
  | .local _ .vmem, ⟨6, _⟩ => ⟨S1x2048x256, .bf16⟩
  | .local _ .vmem, ⟨7, _⟩ => ⟨S1x2048x256, .bf16⟩
  | _, _ => ⟨S16x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FfnDownRefIdeal.lean ====
abbrev S16x4096x4096 : Shape := ⟨3, ![16, 4096, 4096]⟩
abbrev S4x16x4096x2048 : Shape := ⟨4, ![4, 16, 4096, 2048]⟩
abbrev S16x4096x1 : Shape := ⟨3, ![16, 4096, 1]⟩
abbrev S1x16x4096x2048 : Shape := ⟨4, ![1, 16, 4096, 2048]⟩
abbrev S16x4096x2048 : Shape := ⟨3, ![16, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16x4096x4096, .bf16⟩
  | .hbm, ⟨1, _⟩ => ⟨S4x16x4096x2048, .f32⟩
  | .hbm, ⟨2, _⟩ => ⟨S16x4096x1, .f32⟩
  | .hbm, ⟨3, _⟩ => ⟨S16x4096x4096, .f32⟩
  | .hbm, ⟨4, _⟩ => ⟨S1x16x4096x2048, .f32⟩
  | .hbm, ⟨5, _⟩ => ⟨S16x4096x2048, .f32⟩
  | .hbm, ⟨6, _⟩ => ⟨S16x4096x2048, .f32⟩
  | .hbm, ⟨7, _⟩ => ⟨S16x4096x2048, .f32⟩
  | .hbm, ⟨8, _⟩ => ⟨S16x4096x2048, .f32⟩
  | .hbm, ⟨9, _⟩ => ⟨S16x4096x2048, .bf16⟩
  | _, _ => ⟨S16x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Attn16.lean ====
abbrev S16x8x256x3072 : Shape := ⟨4, ![16, 8, 256, 3072]⟩
abbrev S16x8x256x1024 : Shape := ⟨4, ![16, 8, 256, 1024]⟩
abbrev S16x8x256x128 : Shape := ⟨4, ![16, 8, 256, 128]⟩
abbrev S1x1x256x1024 : Shape := ⟨4, ![1, 1, 256, 1024]⟩
abbrev S1x1x256x128 : Shape := ⟨4, ![1, 1, 256, 128]⟩
abbrev S128x128 : Shape := ⟨2, ![128, 128]⟩
abbrev S128x256 : Shape := ⟨2, ![128, 256]⟩
abbrev S1x1x128x128 : Shape := ⟨4, ![1, 1, 128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 10
  | .smem => 0
  | _ => 0

abbrev bufTy : (tb : Table) → Fin (tcTables nBuf tb) → BufTy
  | .hbm, ⟨0, _⟩ => ⟨S16x8x256x3072, .bf16⟩
  | .hbm, ⟨1, _⟩ => ⟨S16x8x256x1024, .bf16⟩
  | .hbm, ⟨2, _⟩ => ⟨S16x8x256x128, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1x256x128, .f32⟩
  | .local _ .vmem, ⟨9, _⟩ => ⟨S1x1x256x128, .f32⟩
  | _, _ => ⟨S16x8x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 1], ![false, false, false]⟩

def k0_mult1 : BitVec 32 :=
  let c0_i32_6 : BitVec 32 := 0#32
  let c128_i32 : BitVec 32 := 128#32
  let v28 : BitVec 32 := Scalar.muli c0_i32_6 c128_i32
  v28
def k0_mult2 : BitVec 32 :=
  let c0_i32_8 : BitVec 32 := 0#32
  let c0_i32_7 : BitVec 32 := 0#32
  let c0_i32_6 : BitVec 32 := 0#32
  let c128_i32 : BitVec 32 := 128#32
  let v28 : BitVec 32 := Scalar.muli c0_i32_6 c128_i32
  let v29 : BitVec 32 := v28
  let c64_i32 : BitVec 32 := 64#32
  let v30 : BitVec 32 := Scalar.subi v29 c64_i32
  let v31 : BitVec 32 := Scalar.maxsi c0_i32_7 v30
  let v32 : BitVec 32 := Scalar.minsi c0_i32_8 v31
  v32
def k0_off1 (c0_i32_6 : BitVec 32) : Fin 4 → Nat :=
  let c0 : Index := 0#32
  let c0_10 : Index := 0#32
  let c128_i32 : BitVec 32 := 128#32
  let v28 : BitVec 32 := Scalar.muli c0_i32_6 c128_i32
  let v29 : BitVec 32 := v28
  let v44 : Index := Scalar.indexCast v29
  let c0_11 : Index := 0#32
  ![0, 0, v44.toNat, 0]
def k0_off2 (c0_i32_6 : BitVec 32) : Fin 4 → Nat :=
  let c0_12 : Index := 0#32
  let c0_13 : Index := 0#32
  let c128_i32 : BitVec 32 := 128#32
  let v28 : BitVec 32 := Scalar.muli c0_i32_6 c128_i32
  let v29 : BitVec 32 := v28
  let v47 : Index := Scalar.indexCast v29
  let c0_14 : Index := 0#32
  ![0, 0, v47.toNat, 0]
def k0_off3 (c0_i32_6 : BitVec 32) : Fin 4 → Nat :=
  let c0_15 : Index := 0#32
  let c0_16 : Index := 0#32
  let c0_i32_8 : BitVec 32 := 0#32
  let c0_i32_7 : BitVec 32 := 0#32
  let c128_i32 : BitVec 32 := 128#32
  let v28 : BitVec 32 := Scalar.muli c0_i32_6 c128_i32
  let v29 : BitVec 32 := v28
  let c64_i32 : BitVec 32 := 64#32
  let v30 : BitVec 32 := Scalar.subi v29 c64_i32
  let v31 : BitVec 32 := Scalar.maxsi c0_i32_7 v30
  let v32 : BitVec 32 := Scalar.minsi c0_i32_8 v31
  let v33 : BitVec 32 := v32
  let v50 : Index := Scalar.indexCast v33
  let c0_17 : Index := 0#32
  ![0, 0, v50.toNat, 0]
def k0_off4 (c0_i32_6 : BitVec 32) : Fin 4 → Nat :=
  let c0_30 : Index := 0#32
  let c0_31 : Index := 0#32
  let c128_i32 : BitVec 32 := 128#32
  let v28 : BitVec 32 := Scalar.muli c0_i32_6 c128_i32
  let v29 : BitVec 32 := v28
  let v86 : Index := Scalar.indexCast v29
  let c128 : Index := 128#32
  ![0, 0, v86.toNat, 128]
def k0_off5 (c0_i32_6 : BitVec 32) : Fin 4 → Nat :=
  let c0_32 : Index := 0#32
  let c0_33 : Index := 0#32
  let c0_i32_8 : BitVec 32 := 0#32
  let c0_i32_7 : BitVec 32 := 0#32
  let c128_i32 : BitVec 32 := 128#32
  let v28 : BitVec 32 := Scalar.muli c0_i32_6 c128_i32
  let v29 : BitVec 32 := v28
  let c64_i32 : BitVec 32 := 64#32
  let v30 : BitVec 32 := Scalar.subi v29 c64_i32
  let v31 : BitVec 32 := Scalar.maxsi c0_i32_7 v30
  let v32 : BitVec 32 := Scalar.minsi c0_i32_8 v31
  let v33 : BitVec 32 := v32
  let v89 : Index := Scalar.indexCast v33
  let c128_34 : Index := 128#32
  ![0, 0, v89.toNat, 128]
def k0_off6 (c0_i32_6 : BitVec 32) : Fin 4 → Nat :=
  let c0_49 : Index := 0#32
  let c0_50 : Index := 0#32
  let c128_i32 : BitVec 32 := 128#32
  let v28 : BitVec 32 := Scalar.muli c0_i32_6 c128_i32
  let v29 : BitVec 32 := v28
  let v125 : Index := Scalar.indexCast v29
  let c256 : Index := 256#32
  ![0, 0, v125.toNat, 256]
def k0_off7 (c0_i32_6 : BitVec 32) : Fin 4 → Nat :=
  let c0_51 : Index := 0#32
  let c0_52 : Index := 0#32
  let c0_i32_8 : BitVec 32 := 0#32
  let c0_i32_7 : BitVec 32 := 0#32
  let c128_i32 : BitVec 32 := 128#32
  let v28 : BitVec 32 := Scalar.muli c0_i32_6 c128_i32
  let v29 : BitVec 32 := v28
  let c64_i32 : BitVec 32 := 64#32
  let v30 : BitVec 32 := Scalar.subi v29 c64_i32
  let v31 : BitVec 32 := Scalar.maxsi c0_i32_7 v30
  let v32 : BitVec 32 := Scalar.minsi c0_i32_8 v31
  let v33 : BitVec 32 := v32
  let v128 : Index := Scalar.indexCast v33
  let c256_53 : Index := 256#32
  ![0, 0, v128.toNat, 256]
def k0_off8 (c0_i32_6 : BitVec 32) : Fin 4 → Nat :=
  let c0_67 : Index := 0#32
  let c0_68 : Index := 0#32
  let c128_i32 : BitVec 32 := 128#32
  let v28 : BitVec 32 := Scalar.muli c0_i32_6 c128_i32
  let v29 : BitVec 32 := v28
  let v164 : Index := Scalar.indexCast v29
  let c384 : Index := 384#32
  ![0, 0, v164.toNat, 384]
def k0_off9 (c0_i32_6 : BitVec 32) : Fin 4 → Nat :=
  let c0_69 : Index := 0#32
  let c0_70 : Index := 0#32
  let c0_i32_8 : BitVec 32 := 0#32
  let c0_i32_7 : BitVec 32 := 0#32
  let c128_i32 : BitVec 32 := 128#32
  let v28 : BitVec 32 := Scalar.muli c0_i32_6 c128_i32
  let v29 : BitVec 32 := v28
  let c64_i32 : BitVec 32 := 64#32
  let v30 : BitVec 32 := Scalar.subi v29 c64_i32
  let v31 : BitVec 32 := Scalar.maxsi c0_i32_7 v30
  let v32 : BitVec 32 := Scalar.minsi c0_i32_8 v31
  let v33 : BitVec 32 := v32
  let v167 : Index := Scalar.indexCast v33
  let c384_71 : Index := 384#32
  ![0, 0, v167.toNat, 384]
def k0_off10 (c0_i32_6 : BitVec 32) : Fin 4 → Nat :=
  let c0_85 : Index := 0#32
  let c0_86 : Index := 0#32
  let c128_i32 : BitVec 32 := 128#32
  let v28 : BitVec 32 := Scalar.muli c0_i32_6 c128_i32
  let v29 : BitVec 32 := v28
  let v203 : Index := Scalar.indexCast v29
  let c512 : Index := 512#32
  ![0, 0, v203.toNat, 512]
def k0_off11 (c0_i32_6 : BitVec 32) : Fin 4 → Nat :=
  let c0_87 : Index := 0#32
  let c0_88 : Index := 0#32
  let c0_i32_8 : BitVec 32 := 0#32
  let c0_i32_7 : BitVec 32 := 0#32
  let c128_i32 : BitVec 32 := 128#32
  let v28 : BitVec 32 := Scalar.muli c0_i32_6 c128_i32
  let v29 : BitVec 32 := v28
  let c64_i32 : BitVec 32 := 64#32
  let v30 : BitVec 32 := Scalar.subi v29 c64_i32
  let v31 : BitVec 32 := Scalar.maxsi c0_i32_7 v30
  let v32 : BitVec 32 := Scalar.minsi c0_i32_8 v31
  let v33 : BitVec 32 := v32
  let v206 : Index := Scalar.indexCast v33
  let c512_89 : Index := 512#32
  ![0, 0, v206.toNat, 512]
def k0_off12 (c0_i32_6 : BitVec 32) : Fin 4 → Nat :=
  let c0_103 : Index := 0#32
  let c0_104 : Index := 0#32
  let c128_i32 : BitVec 32 := 128#32
  let v28 : BitVec 32 := Scalar.muli c0_i32_6 c128_i32
  let v29 : BitVec 32 := v28
  let v242 : Index := Scalar.indexCast v29
  let c640 : Index := 640#32
  ![0, 0, v242.toNat, 640]
def k0_off13 (c0_i32_6 : BitVec 32) : Fin 4 → Nat :=
  let c0_105 : Index := 0#32
  let c0_106 : Index := 0#32
  let c0_i32_8 : BitVec 32 := 0#32
  let c0_i32_7 : BitVec 32 := 0#32
  let c128_i32 : BitVec 32 := 128#32
  let v28 : BitVec 32 := Scalar.muli c0_i32_6 c128_i32
  let v29 : BitVec 32 := v28
  let c64_i32 : BitVec 32 := 64#32
  let v30 : BitVec 32 := Scalar.subi v29 c64_i32
  let v31 : BitVec 32 := Scalar.maxsi c0_i32_7 v30
  let v32 : BitVec 32 := Scalar.minsi c0_i32_8 v31
  let v33 : BitVec 32 := v32
  let v245 : Index := Scalar.indexCast v33
  let c640_107 : Index := 640#32
  ![0, 0, v245.toNat, 640]
def k0_off14 (c0_i32_6 : BitVec 32) : Fin 4 → Nat :=
  let c0_121 : Index := 0#32
  let c0_122 : Index := 0#32
  let c128_i32 : BitVec 32 := 128#32
  let v28 : BitVec 32 := Scalar.muli c0_i32_6 c128_i32
  let v29 : BitVec 32 := v28
  let v281 : Index := Scalar.indexCast v29
  let c768 : Index := 768#32
  ![0, 0, v281.toNat, 768]
def k0_off15 (c0_i32_6 : BitVec 32) : Fin 4 → Nat :=
  let c0_123 : Index := 0#32
  let c0_124 : Index := 0#32
  let c0_i32_8 : BitVec 32 := 0#32
  let c0_i32_7 : BitVec 32 := 0#32
  let c128_i32 : BitVec 32 := 128#32
  let v28 : BitVec 32 := Scalar.muli c0_i32_6 c128_i32
  let v29 : BitVec 32 := v28
  let c64_i32 : BitVec 32 := 64#32
  let v30 : BitVec 32 := Scalar.subi v29 c64_i32
  let v31 : BitVec 32 := Scalar.maxsi c0_i32_7 v30
  let v32 : BitVec 32 := Scalar.minsi c0_i32_8 v31
  let v33 : BitVec 32 := v32
  let v284 : Index := Scalar.indexCast v33
  let c768_125 : Index := 768#32
  ![0, 0, v284.toNat, 768]
def k0_off16 (c0_i32_6 : BitVec 32) : Fin 4 → Nat :=
  let c0_139 : Index := 0#32
  let c0_140 : Index := 0#32
  let c128_i32 : BitVec 32 := 128#32
  let v28 : BitVec 32 := Scalar.muli c0_i32_6 c128_i32
  let v29 : BitVec 32 := v28
  let v320 : Index := Scalar.indexCast v29
  let c896 : Index := 896#32
  ![0, 0, v320.toNat, 896]
def k0_off17 (c0_i32_6 : BitVec 32) : Fin 4 → Nat :=
  let c0_141 : Index := 0#32
  let c0_142 : Index := 0#32
  let c0_i32_8 : BitVec 32 := 0#32
  let c0_i32_7 : BitVec 32 := 0#32
  let c128_i32 : BitVec 32 := 128#32
  let v28 : BitVec 32 := Scalar.muli c0_i32_6 c128_i32
  let v29 : BitVec 32 := v28
  let c64_i32 : BitVec 32 := 64#32
  let v30 : BitVec 32 := Scalar.subi v29 c64_i32
  let v31 : BitVec 32 := Scalar.maxsi c0_i32_7 v30
  let v32 : BitVec 32 := Scalar.minsi c0_i32_8 v31
  let v33 : BitVec 32 := v32
  let v323 : Index := Scalar.indexCast v33
  let c896_143 : Index := 896#32
  ![0, 0, v323.toNat, 896]
def k0_mult3 : BitVec 32 :=
  let c1_i32_160 : BitVec 32 := 1#32
  let c128_i32_161 : BitVec 32 := 128#32
  let v363 : BitVec 32 := Scalar.muli c1_i32_160 c128_i32_161
  v363
def k0_mult4 : BitVec 32 :=
  let c0_i32_164 : BitVec 32 := 0#32
  let c0_i32_163 : BitVec 32 := 0#32
  let c1_i32_160 : BitVec 32 := 1#32
  let c128_i32_161 : BitVec 32 := 128#32
  let v363 : BitVec 32 := Scalar.muli c1_i32_160 c128_i32_161
  let v364 : BitVec 32 := v363
  let c64_i32_162 : BitVec 32 := 64#32
  let v365 : BitVec 32 := Scalar.subi v364 c64_i32_162
  let v366 : BitVec 32 := Scalar.maxsi c0_i32_163 v365
  let v367 : BitVec 32 := Scalar.minsi c0_i32_164 v366
  v367
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg1.toNat, arg0.toNat, c0_i32_0.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  ![arg1.toNat, arg0.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![arg1.toNat, arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Attn16Ideal.lean ====
variable {F : FTy → Type} [FloatOps F] [Named F]
def κ : String → Option EReal := fun
  | "mask" => some ⊥
  | _ => none
-- ==== AttnRef16Ideal.lean ====
abbrev S16x8x256x3072 : Shape := ⟨4, ![16, 8, 256, 3072]⟩
abbrev S16x8x256x1024 : Shape := ⟨4, ![16, 8, 256, 1024]⟩
abbrev S16x8x256x8x128 : Shape := ⟨5, ![16, 8, 256, 8, 128]⟩
abbrev S16x8x8x256x256 : Shape := ⟨5, ![16, 8, 8, 256, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x8x8x256 : Shape := ⟨4, ![16, 8, 8, 256]⟩
abbrev S16x8x8x256x1 : Shape := ⟨5, ![16, 8, 8, 256, 1]⟩
abbrev S16x8x8x256x128 : Shape := ⟨5, ![16, 8, 8, 256, 128]⟩
abbrev S16x8x256x8 : Shape := ⟨4, ![16, 8, 256, 8]⟩
abbrev S16x8x256x8x16 : Shape := ⟨5, ![16, 8, 256, 8, 16]⟩
abbrev S16x8x256x128 : Shape := ⟨4, ![16, 8, 256, 128]⟩

abbrev nBuf : Space → Nat
  | .hbm => 47
  | .vmem => 0
  | .smem => 0
  | _ => 0

abbrev bufTy : (tb : Table) → Fin (tcTables nBuf tb) → BufTy
  | .hbm, ⟨0, _⟩ => ⟨S16x8x256x3072, .bf16⟩
  | .hbm, ⟨1, _⟩ => ⟨S16x8x256x3072, .f32⟩
  | .hbm, ⟨2, _⟩ => ⟨S16x8x256x1024, .f32⟩
  | .hbm, ⟨3, _⟩ => ⟨S16x8x256x8x128, .f32⟩
  | .hbm, ⟨4, _⟩ => ⟨S16x8x256x1024, .f32⟩
  | .hbm, ⟨5, _⟩ => ⟨S16x8x256x8x128, .f32⟩
  | .hbm, ⟨6, _⟩ => ⟨S16x8x256x1024, .f32⟩
  | .hbm, ⟨7, _⟩ => ⟨S16x8x256x8x128, .f32⟩
  | .hbm, ⟨8, _⟩ => ⟨S16x8x8x256x256, .f32⟩
  | .hbm, ⟨9, _⟩ => ⟨S_, .f32⟩
  | .hbm, ⟨10, _⟩ => ⟨S16x8x8x256x256, .f32⟩
  | .hbm, ⟨11, _⟩ => ⟨S16x8x8x256x256, .f32⟩
  | .hbm, ⟨12, _⟩ => ⟨S256, .i32⟩
  | .hbm, ⟨13, _⟩ => ⟨S256x1, .i32⟩
  | .hbm, ⟨14, _⟩ => ⟨S1x256, .i32⟩
  | .hbm, ⟨15, _⟩ => ⟨S256x256, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .f32⟩
  | .hbm, ⟨23, _⟩ => ⟨S_, .f32⟩
  | .hbm, ⟨24, _⟩ => ⟨S16x8x8x256x256, .i1⟩
  | .hbm, ⟨25, _⟩ => ⟨S16x8x8x256x256, .f32⟩
  | .hbm, ⟨26, _⟩ => ⟨S16x8x8x256x256, .f32⟩
  | .hbm, ⟨27, _⟩ => ⟨S_, .f32⟩
  | .hbm, ⟨28, _⟩ => ⟨S16x8x8x256, .f32⟩
  | .hbm, ⟨29, _⟩ => ⟨S16x8x8x256x1, .f32⟩
  | .hbm, ⟨30, _⟩ => ⟨S16x8x8x256x256, .f32⟩
  | .hbm, ⟨31, _⟩ => ⟨S16x8x8x256x256, .f32⟩
  | .hbm, ⟨32, _⟩ => ⟨S16x8x8x256x256, .f32⟩
  | .hbm, ⟨33, _⟩ => ⟨S_, .f32⟩
  | .hbm, ⟨34, _⟩ => ⟨S16x8x8x256, .f32⟩
  | .hbm, ⟨35, _⟩ => ⟨S16x8x8x256x128, .f32⟩
  | .hbm, ⟨36, _⟩ => ⟨S16x8x8x256x1, .f32⟩
  | .hbm, ⟨37, _⟩ => ⟨S16x8x8x256x128, .f32⟩
  | .hbm, ⟨38, _⟩ => ⟨S16x8x8x256x128, .f32⟩
  | .hbm, ⟨39, _⟩ => ⟨S16x8x8x256, .f32⟩
  | .hbm, ⟨40, _⟩ => ⟨S16x8x8x256, .f32⟩
  | .hbm, ⟨41, _⟩ => ⟨S16x8x256x8x128, .f32⟩
  | .hbm, ⟨42, _⟩ => ⟨S16x8x256x1024, .f32⟩
  | .hbm, ⟨43, _⟩ => ⟨S16x8x256x8, .f32⟩
  | .hbm, ⟨44, _⟩ => ⟨S16x8x256x1024, .bf16⟩
  | .hbm, ⟨45, _⟩ => ⟨S16x8x256x8x16, .f32⟩
  | .hbm, ⟨46, _⟩ => ⟨S16x8x256x128, .f32⟩
  | _, _ => ⟨S16x8x256x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]

def κ : String → Option EReal := fun
  | "mask" => some ⊥
  | _ => none
-- ==== Qkv1.lean ====
abbrev S32768x2048 : Shape := ⟨2, ![32768, 2048]⟩
abbrev S2x2048x9216 : Shape := ⟨3, ![2, 2048, 9216]⟩
abbrev S2x2048x3x24x128 : Shape := ⟨5, ![2, 2048, 3, 24, 128]⟩
abbrev S2x2048x2x24x128 : Shape := ⟨5, ![2, 2048, 2, 24, 128]⟩
abbrev S2x2048x2x24x16 : Shape := ⟨5, ![2, 2048, 2, 24, 16]⟩
abbrev S2x2048x2x24x48 : Shape := ⟨5, ![2, 2048, 2, 24, 48]⟩
abbrev S2x2048x1x24x128 : Shape := ⟨5, ![2, 2048, 1, 24, 128]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x48 : Shape := ⟨2, ![4096, 48]⟩
abbrev S4096x128 : Shape := ⟨2, ![4096, 128]⟩
abbrev S1x4096x128 : Shape := ⟨3, ![1, 4096, 128]⟩
abbrev S2x4096x128 : Shape := ⟨3, ![2, 4096, 128]⟩
abbrev S1x32768x3072 : Shape := ⟨3, ![1, 32768, 3072]⟩
abbrev S2048x2048 : Shape := ⟨2, ![2048, 2048]⟩
abbrev S1x2048x512 : Shape := ⟨3, ![1, 2048, 512]⟩
abbrev S1x2048x128 : Shape := ⟨3, ![1, 2048, 128]⟩
abbrev S2048x512 : Shape := ⟨2, ![2048, 512]⟩
abbrev S2048x128 : Shape := ⟨2, ![2048, 128]⟩

abbrev nBuf : Space → Nat
  | .hbm => 47
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2x2048x9216, .f32⟩
  | .hbm, ⟨2, _⟩ => ⟨S2x2048x3x24x128, .f32⟩
  | .hbm, ⟨3, _⟩ => ⟨S2x2048x2x24x128, .f32⟩
  | .hbm, ⟨4, _⟩ => ⟨S2x2048x2x24x16, .f32⟩
  | .hbm, ⟨5, _⟩ => ⟨S2x2048x2x24x48, .f32⟩
  | .hbm, ⟨6, _⟩ => ⟨S2x2048x2x24x16, .f32⟩
  | .hbm, ⟨7, _⟩ => ⟨S2x2048x2x24x48, .f32⟩
  | .hbm, ⟨8, _⟩ => ⟨S2x2048x2x24x128, .f32⟩
  | .hbm, ⟨9, _⟩ => ⟨S2x2048x1x24x128, .f32⟩
  | .hbm, ⟨10, _⟩ => ⟨S2x2048x3x24x128, .f32⟩
  | .hbm, ⟨11, _⟩ => ⟨S2x2048x9216, .f32⟩
  | .hbm, ⟨12, _⟩ => ⟨S2x2048x9216, .bf16⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096, .f32⟩
  | .hbm, ⟨22, _⟩ => ⟨S4096x1, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S_, .f32⟩
  | .hbm, ⟨30, _⟩ => ⟨S4096x48, .f32⟩
  | .hbm, ⟨31, _⟩ => ⟨S_, .f32⟩
  | .hbm, ⟨32, _⟩ => ⟨S4096x48, .f32⟩
  | .hbm, ⟨33, _⟩ => ⟨S4096x128, .f32⟩
  | .hbm, ⟨34, _⟩ => ⟨S4096x16, .f32⟩
  | .hbm, ⟨35, _⟩ => ⟨S4096x128, .f32⟩
  | .hbm, ⟨36, _⟩ => ⟨S_, .f32⟩
  | .hbm, ⟨37, _⟩ => ⟨S4096x128, .f32⟩
  | .hbm, ⟨38, _⟩ => ⟨S1x4096x128, .f32⟩
  | .hbm, ⟨39, _⟩ => ⟨S1x4096x128, .f32⟩
  | .hbm, ⟨40, _⟩ => ⟨S2x4096x128, .f32⟩
  | .hbm, ⟨41, _⟩ => ⟨S_, .f32⟩
  | .hbm, ⟨42, _⟩ => ⟨S4096x128, .f32⟩
  | .hbm, ⟨43, _⟩ => ⟨S1x4096x128, .f32⟩
  | .hbm, ⟨44, _⟩ => ⟨S1x4096x128, .f32⟩
  | .hbm, ⟨45, _⟩ => ⟨S2x4096x128, .f32⟩
  | .hbm, ⟨46, _⟩ => ⟨S1x32768x3072, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x512, .bf16⟩
  | .local _ .vmem, ⟨9, _⟩ => ⟨S1x2048x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 16, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c2_i32_4 : BitVec 32 := 2#32
  let v18 : BitVec 32 := Scalar.muli v17 c2_i32_4
  let c0_i32_5 : BitVec 32 := 0#32
  let v19 : BitVec 32 := Scalar.addi v18 c0_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c1_i32_12 : BitVec 32 := 1#32
  let c0_i32_13 : BitVec 32 := 0#32
  let c0_i32_14 : BitVec 32 := 0#32
  ![c1_i32_12.toNat, c0_i32_13.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let v17 : BitVec 1 := Scalar.cmpi .eq c2_i32 c0_i32_4
  let c1_i32_5 : BitVec 32 := 1#32
  let v18 : BitVec 32 := Scalar.select v17 c1_i32_5 c2_i32
  let v19 : BitVec 32 := Scalar.remsi arg1 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  ![v16.toNat, v26.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let v17 : BitVec 1 := Scalar.cmpi .eq c2_i32 c0_i32_4
  let c1_i32_5 : BitVec 32 := 1#32
  let v18 : BitVec 32 := Scalar.select v17 c1_i32_5 c2_i32
  let v19 : BitVec 32 := Scalar.remsi arg1 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  ![v16.toNat, v26.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Qkv1RefIdeal.lean ====
abbrev S32768x2048 : Shape := ⟨2, ![32768, 2048]⟩
abbrev S2x2048x9216 : Shape := ⟨3, ![2, 2048, 9216]⟩
abbrev S8x4096x2048 : Shape := ⟨3, ![8, 4096, 2048]⟩
abbrev S1x2048x9216 : Shape := ⟨3, ![1, 2048, 9216]⟩
abbrev S2048x9216 : Shape := ⟨2, ![2048, 9216]⟩
abbrev S8x4096x9216 : Shape := ⟨3, ![8, 4096, 9216]⟩
abbrev S8x4096x3x3x8x128 : Shape := ⟨6, ![8, 4096, 3, 3, 8, 128]⟩
abbrev S4096 : Shape := ⟨1, ![4096]⟩
abbrev S8x4096x1x1x8x128 : Shape := ⟨6, ![8, 4096, 1, 1, 8, 128]⟩
abbrev S8x4096x8x128 : Shape := ⟨4, ![8, 4096, 8, 128]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x8x32 : Shape := ⟨4, ![8, 4096, 8, 32]⟩
abbrev S8x4096x8x16 : Shape := ⟨4, ![8, 4096, 8, 16]⟩
abbrev S8x4096x8x96 : Shape := ⟨4, ![8, 4096, 8, 96]⟩
abbrev S8x4096x1x8x128 : Shape := ⟨5, ![8, 4096, 1, 8, 128]⟩
abbrev S8x4096x2x8x128 : Shape := ⟨5, ![8, 4096, 2, 8, 128]⟩
abbrev S8x4096x2x8x16 : Shape := ⟨5, ![8, 4096, 2, 8, 16]⟩
abbrev S8x4096x2x8x48 : Shape := ⟨5, ![8, 4096, 2, 8, 48]⟩
abbrev S8x4096x3x8x128 : Shape := ⟨5, ![8, 4096, 3, 8, 128]⟩
abbrev S32768x1x3072 : Shape := ⟨3, ![32768, 1, 3072]⟩
abbrev S1x32768x3072 : Shape := ⟨3, ![1, 32768, 3072]⟩

abbrev nBuf : Space → Nat
  | .hbm => 96
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2x2048x9216, .f32⟩
  | .hbm, ⟨2, _⟩ => ⟨S32768x2048, .f32⟩
  | .hbm, ⟨3, _⟩ => ⟨S8x4096x2048, .f32⟩
  | .hbm, ⟨4, _⟩ => ⟨S1x2048x9216, .f32⟩
  | .hbm, ⟨5, _⟩ => ⟨S2048x9216, .f32⟩
  | .hbm, ⟨6, _⟩ => ⟨S8x4096x9216, .f32⟩
  | .hbm, ⟨7, _⟩ => ⟨S8x4096x3x3x8x128, .f32⟩
  | .hbm, ⟨8, _⟩ => ⟨S4096, .i32⟩
  | .hbm, ⟨9, _⟩ => ⟨S8x4096x1x1x8x128, .f32⟩
  | .hbm, ⟨10, _⟩ => ⟨S8x4096x8x128, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S4096, .f32⟩
  | .hbm, ⟨20, _⟩ => ⟨S4096x1, .f32⟩
  | .hbm, ⟨21, _⟩ => ⟨S1x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S1x4096x1x16, .f32⟩
  | .hbm, ⟨27, _⟩ => ⟨S4096x16, .f32⟩
  | .hbm, ⟨28, _⟩ => ⟨S1x4096x1x16, .f32⟩
  | .hbm, ⟨29, _⟩ => ⟨S8x4096x8x32, .f32⟩
  | .hbm, ⟨30, _⟩ => ⟨S8x4096x8x16, .f32⟩
  | .hbm, ⟨31, _⟩ => ⟨S8x4096x8x16, .f32⟩
  | .hbm, ⟨32, _⟩ => ⟨S8x4096x8x16, .f32⟩
  | .hbm, ⟨33, _⟩ => ⟨S8x4096x8x16, .f32⟩
  | .hbm, ⟨34, _⟩ => ⟨S8x4096x8x16, .f32⟩
  | .hbm, ⟨35, _⟩ => ⟨S8x4096x8x16, .f32⟩
  | .hbm, ⟨36, _⟩ => ⟨S8x4096x8x16, .f32⟩
  | .hbm, ⟨37, _⟩ => ⟨S8x4096x8x16, .f32⟩
  | .hbm, ⟨38, _⟩ => ⟨S8x4096x8x16, .f32⟩
  | .hbm, ⟨39, _⟩ => ⟨S8x4096x8x16, .f32⟩
  | .hbm, ⟨40, _⟩ => ⟨S8x4096x8x16, .f32⟩
  | .hbm, ⟨41, _⟩ => ⟨S8x4096x8x16, .f32⟩
  | .hbm, ⟨42, _⟩ => ⟨S8x4096x8x32, .f32⟩
  | .hbm, ⟨43, _⟩ => ⟨S8x4096x8x96, .f32⟩
  | .hbm, ⟨44, _⟩ => ⟨S8x4096x8x128, .f32⟩
  | .hbm, ⟨45, _⟩ => ⟨S8x4096x1x1x8x128, .f32⟩
  | .hbm, ⟨46, _⟩ => ⟨S8x4096x8x128, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S4096, .f32⟩
  | .hbm, ⟨56, _⟩ => ⟨S4096x1, .f32⟩
  | .hbm, ⟨57, _⟩ => ⟨S1x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S1x4096x1x16, .f32⟩
  | .hbm, ⟨63, _⟩ => ⟨S4096x16, .f32⟩
  | .hbm, ⟨64, _⟩ => ⟨S1x4096x1x16, .f32⟩
  | .hbm, ⟨65, _⟩ => ⟨S8x4096x8x32, .f32⟩
  | .hbm, ⟨66, _⟩ => ⟨S8x4096x8x16, .f32⟩
  | .hbm, ⟨67, _⟩ => ⟨S8x4096x8x16, .f32⟩
  | .hbm, ⟨68, _⟩ => ⟨S8x4096x8x16, .f32⟩
  | .hbm, ⟨69, _⟩ => ⟨S8x4096x8x16, .f32⟩
  | .hbm, ⟨70, _⟩ => ⟨S8x4096x8x16, .f32⟩
  | .hbm, ⟨71, _⟩ => ⟨S8x4096x8x16, .f32⟩
  | .hbm, ⟨72, _⟩ => ⟨S8x4096x8x16, .f32⟩
  | .hbm, ⟨73, _⟩ => ⟨S8x4096x8x16, .f32⟩
  | .hbm, ⟨74, _⟩ => ⟨S8x4096x8x16, .f32⟩
  | .hbm, ⟨75, _⟩ => ⟨S8x4096x8x16, .f32⟩
  | .hbm, ⟨76, _⟩ => ⟨S8x4096x8x16, .f32⟩
  | .hbm, ⟨77, _⟩ => ⟨S8x4096x8x16, .f32⟩
  | .hbm, ⟨78, _⟩ => ⟨S8x4096x8x32, .f32⟩
  | .hbm, ⟨79, _⟩ => ⟨S8x4096x8x96, .f32⟩
  | .hbm, ⟨80, _⟩ => ⟨S8x4096x8x128, .f32⟩
  | .hbm, ⟨81, _⟩ => ⟨S8x4096x1x1x8x128, .f32⟩
  | .hbm, ⟨82, _⟩ => ⟨S8x4096x8x128, .f32⟩
  | .hbm, ⟨83, _⟩ => ⟨S8x4096x1x8x128, .f32⟩
  | .hbm, ⟨84, _⟩ => ⟨S8x4096x1x8x128, .f32⟩
  | .hbm, ⟨85, _⟩ => ⟨S8x4096x2x8x128, .f32⟩
  | .hbm, ⟨86, _⟩ => ⟨S8x4096x2x8x16, .f32⟩
  | .hbm, ⟨87, _⟩ => ⟨S8x4096x2x8x48, .f32⟩
  | .hbm, ⟨88, _⟩ => ⟨S8x4096x2x8x16, .f32⟩
  | .hbm, ⟨89, _⟩ => ⟨S8x4096x2x8x48, .f32⟩
  | .hbm, ⟨90, _⟩ => ⟨S8x4096x2x8x128, .f32⟩
  | .hbm, ⟨91, _⟩ => ⟨S8x4096x1x8x128, .f32⟩
  | .hbm, ⟨92, _⟩ => ⟨S8x4096x3x8x128, .f32⟩
  | .hbm, ⟨93, _⟩ => ⟨S32768x1x3072, .f32⟩
  | .hbm, ⟨94, _⟩ => ⟨S1x32768x3072, .f32⟩
  | .hbm, ⟨95, _⟩ => ⟨S1x32768x3072, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_cst_1 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩

abbrev nD : Nat := 1
abbrev τ : Topo := Topo.v7x

variable {F : FTy → Type} [FloatOps F]
-- ==== Qkv4.lean ====
abbrev S8192x8192 : Shape := ⟨2, ![8192, 8192]⟩
abbrev S2x2048x9216 : Shape := ⟨3, ![2, 2048, 9216]⟩
abbrev S2x2048x3x24x128 : Shape := ⟨5, ![2, 2048, 3, 24, 128]⟩
abbrev S2x2048x2x24x128 : Shape := ⟨5, ![2, 2048, 2, 24, 128]⟩
abbrev S2x2048x2x24x16 : Shape := ⟨5, ![2, 2048, 2, 24, 16]⟩
abbrev S2x2048x2x24x48 : Shape := ⟨5, ![2, 2048, 2, 24, 48]⟩
abbrev S2x2048x1x24x128 : Shape := ⟨5, ![2, 2048, 1, 24, 128]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x48 : Shape := ⟨2, ![4096, 48]⟩
abbrev S4096x128 : Shape := ⟨2, ![4096, 128]⟩
abbrev S1x4096x128 : Shape := ⟨3, ![1, 4096, 128]⟩
abbrev S2x4096x128 : Shape := ⟨3, ![2, 4096, 128]⟩
abbrev S2x1024x512 : Shape := ⟨3, ![2, 1024, 512]⟩
abbrev S1x2x1x1024x1x512 : Shape := ⟨6, ![1, 2, 1, 1024, 1, 512]⟩
abbrev S1x2x2x1024x1x512 : Shape := ⟨6, ![1, 2, 2, 1024, 1, 512]⟩
abbrev S2x2048x512 : Shape := ⟨3, ![2, 2048, 512]⟩
abbrev S4x8192x3072 : Shape := ⟨3, ![4, 8192, 3072]⟩
abbrev S2048x2048 : Shape := ⟨2, ![2048, 2048]⟩
abbrev S1x2048x512 : Shape := ⟨3, ![1, 2048, 512]⟩
abbrev S1x2048x128 : Shape := ⟨3, ![1, 2048, 128]⟩
abbrev S2048x512 : Shape := ⟨2, ![2048, 512]⟩
abbrev S2048x128 : Shape := ⟨2, ![2048, 128]⟩

abbrev nBuf : Space → Nat
  | .hbm => 55
  | .vmem => 10
  | .smem => 0
  | _ => 0

abbrev bufTy : (tb : Table) → Fin (tcTables nBuf tb) → BufTy
  | .hbm, ⟨0, _⟩ => ⟨S8192x8192, .bf16⟩
  | .hbm, ⟨1, _⟩ => ⟨S2x2048x9216, .f32⟩
  | .hbm, ⟨2, _⟩ => ⟨S2x2048x3x24x128, .f32⟩
  | .hbm, ⟨3, _⟩ => ⟨S2x2048x2x24x128, .f32⟩
  | .hbm, ⟨4, _⟩ => ⟨S2x2048x2x24x16, .f32⟩
  | .hbm, ⟨5, _⟩ => ⟨S2x2048x2x24x48, .f32⟩
  | .hbm, ⟨6, _⟩ => ⟨S2x2048x2x24x16, .f32⟩
  | .hbm, ⟨7, _⟩ => ⟨S2x2048x2x24x48, .f32⟩
  | .hbm, ⟨8, _⟩ => ⟨S2x2048x2x24x128, .f32⟩
  | .hbm, ⟨9, _⟩ => ⟨S2x2048x1x24x128, .f32⟩
  | .hbm, ⟨10, _⟩ => ⟨S2x2048x3x24x128, .f32⟩
  | .hbm, ⟨11, _⟩ => ⟨S2x2048x9216, .f32⟩
  | .hbm, ⟨12, _⟩ => ⟨S2x2048x9216, .bf16⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096, .f32⟩
  | .hbm, ⟨22, _⟩ => ⟨S4096x1, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S_, .f32⟩
  | .hbm, ⟨30, _⟩ => ⟨S4096x48, .f32⟩
  | .hbm, ⟨31, _⟩ => ⟨S_, .f32⟩
  | .hbm, ⟨32, _⟩ => ⟨S4096x48, .f32⟩
  | .hbm, ⟨33, _⟩ => ⟨S4096x128, .f32⟩
  | .hbm, ⟨34, _⟩ => ⟨S4096x16, .f32⟩
  | .hbm, ⟨35, _⟩ => ⟨S4096x128, .f32⟩
  | .hbm, ⟨36, _⟩ => ⟨S_, .f32⟩
  | .hbm, ⟨37, _⟩ => ⟨S4096x128, .f32⟩
  | .hbm, ⟨38, _⟩ => ⟨S1x4096x128, .f32⟩
  | .hbm, ⟨39, _⟩ => ⟨S1x4096x128, .f32⟩
  | .hbm, ⟨40, _⟩ => ⟨S2x4096x128, .f32⟩
  | .hbm, ⟨41, _⟩ => ⟨S_, .f32⟩
  | .hbm, ⟨42, _⟩ => ⟨S4096x128, .f32⟩
  | .hbm, ⟨43, _⟩ => ⟨S1x4096x128, .f32⟩
  | .hbm, ⟨44, _⟩ => ⟨S1x4096x128, .f32⟩
  | .hbm, ⟨45, _⟩ => ⟨S2x4096x128, .f32⟩
  | .hbm, ⟨46, _⟩ => ⟨S2x1024x512, .f32⟩
  | .hbm, ⟨47, _⟩ => ⟨S1x2x1x1024x1x512, .f32⟩
  | .hbm, ⟨48, _⟩ => ⟨S1x2x2x1024x1x512, .f32⟩
  | .hbm, ⟨49, _⟩ => ⟨S2x2048x512, .f32⟩
  | .hbm, ⟨50, _⟩ => ⟨S2x1024x512, .f32⟩
  | .hbm, ⟨51, _⟩ => ⟨S1x2x1x1024x1x512, .f32⟩
  | .hbm, ⟨52, _⟩ => ⟨S1x2x2x1024x1x512, .f32⟩
  | .hbm, ⟨53, _⟩ => ⟨S2x2048x512, .f32⟩
  | .hbm, ⟨54, _⟩ => ⟨S4x8192x3072, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x512, .bf16⟩
  | .local _ .vmem, ⟨9, _⟩ => ⟨S1x2048x512, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c2_i32_4 : BitVec 32 := 2#32
  let v18 : BitVec 32 := Scalar.muli v17 c2_i32_4
  let c2_i32_5 : BitVec 32 := 2#32
  let v19 : BitVec 32 := Scalar.addi v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c1_i32_12 : BitVec 32 := 1#32
  let c0_i32_13 : BitVec 32 := 0#32
  let c0_i32_14 : BitVec 32 := 0#32
  ![c1_i32_12.toNat, c0_i32_13.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Qkv4RefIdeal.lean ====
abbrev S8192x8192 : Shape := ⟨2, ![8192, 8192]⟩
abbrev S2x2048x9216 : Shape := ⟨3, ![2, 2048, 9216]⟩
abbrev S8x4096x2048 : Shape := ⟨3, ![8, 4096, 2048]⟩
abbrev S1x2048x9216 : Shape := ⟨3, ![1, 2048, 9216]⟩
abbrev S2048x9216 : Shape := ⟨2, ![2048, 9216]⟩
abbrev S8x4096x9216 : Shape := ⟨3, ![8, 4096, 9216]⟩
abbrev S8x4096x3x3x8x128 : Shape := ⟨6, ![8, 4096, 3, 3, 8, 128]⟩
abbrev S4096 : Shape := ⟨1, ![4096]⟩
abbrev S8x4096x1x1x8x128 : Shape := ⟨6, ![8, 4096, 1, 1, 8, 128]⟩
abbrev S8x4096x8x128 : Shape := ⟨4, ![8, 4096, 8, 128]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x8x32 : Shape := ⟨4, ![8, 4096, 8, 32]⟩
abbrev S8x4096x8x16 : Shape := ⟨4, ![8, 4096, 8, 16]⟩
abbrev S8x4096x8x96 : Shape := ⟨4, ![8, 4096, 8, 96]⟩
abbrev S8x4096x1x8x128 : Shape := ⟨5, ![8, 4096, 1, 8, 128]⟩
abbrev S8x4096x2x8x128 : Shape := ⟨5, ![8, 4096, 2, 8, 128]⟩
abbrev S8x4096x2x8x16 : Shape := ⟨5, ![8, 4096, 2, 8, 16]⟩
abbrev S8x4096x2x8x48 : Shape := ⟨5, ![8, 4096, 2, 8, 48]⟩
abbrev S8x4096x3x8x128 : Shape := ⟨5, ![8, 4096, 3, 8, 128]⟩
abbrev S8192x4x3072 : Shape := ⟨3, ![8192, 4, 3072]⟩
abbrev S4x8192x3072 : Shape := ⟨3, ![4, 8192, 3072]⟩

abbrev nBuf : Space → Nat
  | .hbm => 96
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2x2048x9216, .f32⟩
  | .hbm, ⟨2, _⟩ => ⟨S8192x8192, .f32⟩
  | .hbm, ⟨3, _⟩ => ⟨S8x4096x2048, .f32⟩
  | .hbm, ⟨4, _⟩ => ⟨S1x2048x9216, .f32⟩
  | .hbm, ⟨5, _⟩ => ⟨S2048x9216, .f32⟩
  | .hbm, ⟨6, _⟩ => ⟨S8x4096x9216, .f32⟩
  | .hbm, ⟨7, _⟩ => ⟨S8x4096x3x3x8x128, .f32⟩
  | .hbm, ⟨8, _⟩ => ⟨S4096, .i32⟩
  | .hbm, ⟨9, _⟩ => ⟨S8x4096x1x1x8x128, .f32⟩
  | .hbm, ⟨10, _⟩ => ⟨S8x4096x8x128, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S4096, .f32⟩
  | .hbm, ⟨20, _⟩ => ⟨S4096x1, .f32⟩
  | .hbm, ⟨21, _⟩ => ⟨S1x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S1x4096x1x16, .f32⟩
  | .hbm, ⟨27, _⟩ => ⟨S4096x16, .f32⟩
  | .hbm, ⟨28, _⟩ => ⟨S1x4096x1x16, .f32⟩
  | .hbm, ⟨29, _⟩ => ⟨S8x4096x8x32, .f32⟩
  | .hbm, ⟨30, _⟩ => ⟨S8x4096x8x16, .f32⟩
  | .hbm, ⟨31, _⟩ => ⟨S8x4096x8x16, .f32⟩
  | .hbm, ⟨32, _⟩ => ⟨S8x4096x8x16, .f32⟩
  | .hbm, ⟨33, _⟩ => ⟨S8x4096x8x16, .f32⟩
  | .hbm, ⟨34, _⟩ => ⟨S8x4096x8x16, .f32⟩
  | .hbm, ⟨35, _⟩ => ⟨S8x4096x8x16, .f32⟩
  | .hbm, ⟨36, _⟩ => ⟨S8x4096x8x16, .f32⟩
  | .hbm, ⟨37, _⟩ => ⟨S8x4096x8x16, .f32⟩
  | .hbm, ⟨38, _⟩ => ⟨S8x4096x8x16, .f32⟩
  | .hbm, ⟨39, _⟩ => ⟨S8x4096x8x16, .f32⟩
  | .hbm, ⟨40, _⟩ => ⟨S8x4096x8x16, .f32⟩
  | .hbm, ⟨41, _⟩ => ⟨S8x4096x8x16, .f32⟩
  | .hbm, ⟨42, _⟩ => ⟨S8x4096x8x32, .f32⟩
  | .hbm, ⟨43, _⟩ => ⟨S8x4096x8x96, .f32⟩
  | .hbm, ⟨44, _⟩ => ⟨S8x4096x8x128, .f32⟩
  | .hbm, ⟨45, _⟩ => ⟨S8x4096x1x1x8x128, .f32⟩
  | .hbm, ⟨46, _⟩ => ⟨S8x4096x8x128, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S4096, .f32⟩
  | .hbm, ⟨56, _⟩ => ⟨S4096x1, .f32⟩
  | .hbm, ⟨57, _⟩ => ⟨S1x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S1x4096x1x16, .f32⟩
  | .hbm, ⟨63, _⟩ => ⟨S4096x16, .f32⟩
  | .hbm, ⟨64, _⟩ => ⟨S1x4096x1x16, .f32⟩
  | .hbm, ⟨65, _⟩ => ⟨S8x4096x8x32, .f32⟩
  | .hbm, ⟨66, _⟩ => ⟨S8x4096x8x16, .f32⟩
  | .hbm, ⟨67, _⟩ => ⟨S8x4096x8x16, .f32⟩
  | .hbm, ⟨68, _⟩ => ⟨S8x4096x8x16, .f32⟩
  | .hbm, ⟨69, _⟩ => ⟨S8x4096x8x16, .f32⟩
  | .hbm, ⟨70, _⟩ => ⟨S8x4096x8x16, .f32⟩
  | .hbm, ⟨71, _⟩ => ⟨S8x4096x8x16, .f32⟩
  | .hbm, ⟨72, _⟩ => ⟨S8x4096x8x16, .f32⟩
  | .hbm, ⟨73, _⟩ => ⟨S8x4096x8x16, .f32⟩
  | .hbm, ⟨74, _⟩ => ⟨S8x4096x8x16, .f32⟩
  | .hbm, ⟨75, _⟩ => ⟨S8x4096x8x16, .f32⟩
  | .hbm, ⟨76, _⟩ => ⟨S8x4096x8x16, .f32⟩
  | .hbm, ⟨77, _⟩ => ⟨S8x4096x8x16, .f32⟩
  | .hbm, ⟨78, _⟩ => ⟨S8x4096x8x32, .f32⟩
  | .hbm, ⟨79, _⟩ => ⟨S8x4096x8x96, .f32⟩
  | .hbm, ⟨80, _⟩ => ⟨S8x4096x8x128, .f32⟩
  | .hbm, ⟨81, _⟩ => ⟨S8x4096x1x1x8x128, .f32⟩
  | .hbm, ⟨82, _⟩ => ⟨S8x4096x8x128, .f32⟩
  | .hbm, ⟨83, _⟩ => ⟨S8x4096x1x8x128, .f32⟩
  | .hbm, ⟨84, _⟩ => ⟨S8x4096x1x8x128, .f32⟩
  | .hbm, ⟨85, _⟩ => ⟨S8x4096x2x8x128, .f32⟩
  | .hbm, ⟨86, _⟩ => ⟨S8x4096x2x8x16, .f32⟩
  | .hbm, ⟨87, _⟩ => ⟨S8x4096x2x8x48, .f32⟩
  | .hbm, ⟨88, _⟩ => ⟨S8x4096x2x8x16, .f32⟩
  | .hbm, ⟨89, _⟩ => ⟨S8x4096x2x8x48, .f32⟩
  | .hbm, ⟨90, _⟩ => ⟨S8x4096x2x8x128, .f32⟩
  | .hbm, ⟨91, _⟩ => ⟨S8x4096x1x8x128, .f32⟩
  | .hbm, ⟨92, _⟩ => ⟨S8x4096x3x8x128, .f32⟩
  | .hbm, ⟨93, _⟩ => ⟨S8192x4x3072, .f32⟩
  | .hbm, ⟨94, _⟩ => ⟨S4x8192x3072, .f32⟩
  | .hbm, ⟨95, _⟩ => ⟨S4x8192x3072, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_cst_1 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩

abbrev nD : Nat := 1
abbrev τ : Topo := Topo.v7x

variable {F : FTy → Type} [FloatOps F]
-- ==== Qkv16.lean ====
abbrev S2048x32768 : Shape := ⟨2, ![2048, 32768]⟩
abbrev S2x2048x9216 : Shape := ⟨3, ![2, 2048, 9216]⟩
abbrev S2x2048x3x24x128 : Shape := ⟨5, ![2, 2048, 3, 24, 128]⟩
abbrev S2x2048x2x24x128 : Shape := ⟨5, ![2, 2048, 2, 24, 128]⟩
abbrev S2x2048x2x24x16 : Shape := ⟨5, ![2, 2048, 2, 24, 16]⟩
abbrev S2x2048x2x24x48 : Shape := ⟨5, ![2, 2048, 2, 24, 48]⟩
abbrev S2x2048x1x24x128 : Shape := ⟨5, ![2, 2048, 1, 24, 128]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x48 : Shape := ⟨2, ![4096, 48]⟩
abbrev S4096x128 : Shape := ⟨2, ![4096, 128]⟩
abbrev S1x4096x128 : Shape := ⟨3, ![1, 4096, 128]⟩
abbrev S2x4096x128 : Shape := ⟨3, ![2, 4096, 128]⟩
abbrev S2x256x2048 : Shape := ⟨3, ![2, 256, 2048]⟩
abbrev S1x2x1x256x1x2048 : Shape := ⟨6, ![1, 2, 1, 256, 1, 2048]⟩
abbrev S1x2x8x256x1x2048 : Shape := ⟨6, ![1, 2, 8, 256, 1, 2048]⟩
abbrev S2x2048x2048 : Shape := ⟨3, ![2, 2048, 2048]⟩
abbrev S16x2048x3072 : Shape := ⟨3, ![16, 2048, 3072]⟩
abbrev S2048x2048 : Shape := ⟨2, ![2048, 2048]⟩
abbrev S1x2048x512 : Shape := ⟨3, ![1, 2048, 512]⟩
abbrev S1x2048x128 : Shape := ⟨3, ![1, 2048, 128]⟩
abbrev S2048x512 : Shape := ⟨2, ![2048, 512]⟩
abbrev S2048x128 : Shape := ⟨2, ![2048, 128]⟩

abbrev nBuf : Space → Nat
  | .hbm => 55
  | .vmem => 10
  | .smem => 0
  | _ => 0

abbrev bufTy : (tb : Table) → Fin (tcTables nBuf tb) → BufTy
  | .hbm, ⟨0, _⟩ => ⟨S2048x32768, .bf16⟩
  | .hbm, ⟨1, _⟩ => ⟨S2x2048x9216, .f32⟩
  | .hbm, ⟨2, _⟩ => ⟨S2x2048x3x24x128, .f32⟩
  | .hbm, ⟨3, _⟩ => ⟨S2x2048x2x24x128, .f32⟩
  | .hbm, ⟨4, _⟩ => ⟨S2x2048x2x24x16, .f32⟩
  | .hbm, ⟨5, _⟩ => ⟨S2x2048x2x24x48, .f32⟩
  | .hbm, ⟨6, _⟩ => ⟨S2x2048x2x24x16, .f32⟩
  | .hbm, ⟨7, _⟩ => ⟨S2x2048x2x24x48, .f32⟩
  | .hbm, ⟨8, _⟩ => ⟨S2x2048x2x24x128, .f32⟩
  | .hbm, ⟨9, _⟩ => ⟨S2x2048x1x24x128, .f32⟩
  | .hbm, ⟨10, _⟩ => ⟨S2x2048x3x24x128, .f32⟩
  | .hbm, ⟨11, _⟩ => ⟨S2x2048x9216, .f32⟩
  | .hbm, ⟨12, _⟩ => ⟨S2x2048x9216, .bf16⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096, .f32⟩
  | .hbm, ⟨22, _⟩ => ⟨S4096x1, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S_, .f32⟩
  | .hbm, ⟨30, _⟩ => ⟨S4096x48, .f32⟩
  | .hbm, ⟨31, _⟩ => ⟨S_, .f32⟩
  | .hbm, ⟨32, _⟩ => ⟨S4096x48, .f32⟩
  | .hbm, ⟨33, _⟩ => ⟨S4096x128, .f32⟩
  | .hbm, ⟨34, _⟩ => ⟨S4096x16, .f32⟩
  | .hbm, ⟨35, _⟩ => ⟨S4096x128, .f32⟩
  | .hbm, ⟨36, _⟩ => ⟨S_, .f32⟩
  | .hbm, ⟨37, _⟩ => ⟨S4096x128, .f32⟩
  | .hbm, ⟨38, _⟩ => ⟨S1x4096x128, .f32⟩
  | .hbm, ⟨39, _⟩ => ⟨S1x4096x128, .f32⟩
  | .hbm, ⟨40, _⟩ => ⟨S2x4096x128, .f32⟩
  | .hbm, ⟨41, _⟩ => ⟨S_, .f32⟩
  | .hbm, ⟨42, _⟩ => ⟨S4096x128, .f32⟩
  | .hbm, ⟨43, _⟩ => ⟨S1x4096x128, .f32⟩
  | .hbm, ⟨44, _⟩ => ⟨S1x4096x128, .f32⟩
  | .hbm, ⟨45, _⟩ => ⟨S2x4096x128, .f32⟩
  | .hbm, ⟨46, _⟩ => ⟨S2x256x2048, .f32⟩
  | .hbm, ⟨47, _⟩ => ⟨S1x2x1x256x1x2048, .f32⟩
  | .hbm, ⟨48, _⟩ => ⟨S1x2x8x256x1x2048, .f32⟩
  | .hbm, ⟨49, _⟩ => ⟨S2x2048x2048, .f32⟩
  | .hbm, ⟨50, _⟩ => ⟨S2x256x2048, .f32⟩
  | .hbm, ⟨51, _⟩ => ⟨S1x2x1x256x1x2048, .f32⟩
  | .hbm, ⟨52, _⟩ => ⟨S1x2x8x256x1x2048, .f32⟩
  | .hbm, ⟨53, _⟩ => ⟨S2x2048x2048, .f32⟩
  | .hbm, ⟨54, _⟩ => ⟨S16x2048x3072, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x512, .bf16⟩
  | .local _ .vmem, ⟨9, _⟩ => ⟨S1x2048x512, .bf16⟩
  | _, _ => ⟨S2048x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c2_i32_4 : BitVec 32 := 2#32
  let v18 : BitVec 32 := Scalar.muli v17 c2_i32_4
  let c4_i32 : BitVec 32 := 4#32
  let v19 : BitVec 32 := Scalar.addi v18 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi arg2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c1_i32_11 : BitVec 32 := 1#32
  let c0_i32_12 : BitVec 32 := 0#32
  let c0_i32_13 : BitVec 32 := 0#32
  ![c1_i32_11.toNat, c0_i32_12.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Qkv16RefIdeal.lean ====
abbrev S2048x32768 : Shape := ⟨2, ![2048, 32768]⟩
abbrev S2x2048x9216 : Shape := ⟨3, ![2, 2048, 9216]⟩
abbrev S8x4096x2048 : Shape := ⟨3, ![8, 4096, 2048]⟩
abbrev S1x2048x9216 : Shape := ⟨3, ![1, 2048, 9216]⟩
abbrev S2048x9216 : Shape := ⟨2, ![2048, 9216]⟩
abbrev S8x4096x9216 : Shape := ⟨3, ![8, 4096, 9216]⟩
abbrev S8x4096x3x3x8x128 : Shape := ⟨6, ![8, 4096, 3, 3, 8, 128]⟩
abbrev S4096 : Shape := ⟨1, ![4096]⟩
abbrev S8x4096x1x1x8x128 : Shape := ⟨6, ![8, 4096, 1, 1, 8, 128]⟩
abbrev S8x4096x8x128 : Shape := ⟨4, ![8, 4096, 8, 128]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x8x32 : Shape := ⟨4, ![8, 4096, 8, 32]⟩
abbrev S8x4096x8x16 : Shape := ⟨4, ![8, 4096, 8, 16]⟩
abbrev S8x4096x8x96 : Shape := ⟨4, ![8, 4096, 8, 96]⟩
abbrev S8x4096x1x8x128 : Shape := ⟨5, ![8, 4096, 1, 8, 128]⟩
abbrev S8x4096x2x8x128 : Shape := ⟨5, ![8, 4096, 2, 8, 128]⟩
abbrev S8x4096x2x8x16 : Shape := ⟨5, ![8, 4096, 2, 8, 16]⟩
abbrev S8x4096x2x8x48 : Shape := ⟨5, ![8, 4096, 2, 8, 48]⟩
abbrev S8x4096x3x8x128 : Shape := ⟨5, ![8, 4096, 3, 8, 128]⟩
abbrev S2048x16x3072 : Shape := ⟨3, ![2048, 16, 3072]⟩
abbrev S16x2048x3072 : Shape := ⟨3, ![16, 2048, 3072]⟩

abbrev nBuf : Space → Nat
  | .hbm => 96
  | .vmem => 0
  | .smem => 0
  | _ => 0

abbrev bufTy : (tb : Table) → Fin (tcTables nBuf tb) → BufTy
  | .hbm, ⟨0, _⟩ => ⟨S2048x32768, .bf16⟩
  | .hbm, ⟨1, _⟩ => ⟨S2x2048x9216, .f32⟩
  | .hbm, ⟨2, _⟩ => ⟨S2048x32768, .f32⟩
  | .hbm, ⟨3, _⟩ => ⟨S8x4096x2048, .f32⟩
  | .hbm, ⟨4, _⟩ => ⟨S1x2048x9216, .f32⟩
  | .hbm, ⟨5, _⟩ => ⟨S2048x9216, .f32⟩
  | .hbm, ⟨6, _⟩ => ⟨S8x4096x9216, .f32⟩
  | .hbm, ⟨7, _⟩ => ⟨S8x4096x3x3x8x128, .f32⟩
  | .hbm, ⟨8, _⟩ => ⟨S4096, .i32⟩
  | .hbm, ⟨9, _⟩ => ⟨S8x4096x1x1x8x128, .f32⟩
  | .hbm, ⟨10, _⟩ => ⟨S8x4096x8x128, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S4096, .f32⟩
  | .hbm, ⟨20, _⟩ => ⟨S4096x1, .f32⟩
  | .hbm, ⟨21, _⟩ => ⟨S1x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S1x4096x1x16, .f32⟩
  | .hbm, ⟨27, _⟩ => ⟨S4096x16, .f32⟩
  | .hbm, ⟨28, _⟩ => ⟨S1x4096x1x16, .f32⟩
  | .hbm, ⟨29, _⟩ => ⟨S8x4096x8x32, .f32⟩
  | .hbm, ⟨30, _⟩ => ⟨S8x4096x8x16, .f32⟩
  | .hbm, ⟨31, _⟩ => ⟨S8x4096x8x16, .f32⟩
  | .hbm, ⟨32, _⟩ => ⟨S8x4096x8x16, .f32⟩
  | .hbm, ⟨33, _⟩ => ⟨S8x4096x8x16, .f32⟩
  | .hbm, ⟨34, _⟩ => ⟨S8x4096x8x16, .f32⟩
  | .hbm, ⟨35, _⟩ => ⟨S8x4096x8x16, .f32⟩
  | .hbm, ⟨36, _⟩ => ⟨S8x4096x8x16, .f32⟩
  | .hbm, ⟨37, _⟩ => ⟨S8x4096x8x16, .f32⟩
  | .hbm, ⟨38, _⟩ => ⟨S8x4096x8x16, .f32⟩
  | .hbm, ⟨39, _⟩ => ⟨S8x4096x8x16, .f32⟩
  | .hbm, ⟨40, _⟩ => ⟨S8x4096x8x16, .f32⟩
  | .hbm, ⟨41, _⟩ => ⟨S8x4096x8x16, .f32⟩
  | .hbm, ⟨42, _⟩ => ⟨S8x4096x8x32, .f32⟩
  | .hbm, ⟨43, _⟩ => ⟨S8x4096x8x96, .f32⟩
  | .hbm, ⟨44, _⟩ => ⟨S8x4096x8x128, .f32⟩
  | .hbm, ⟨45, _⟩ => ⟨S8x4096x1x1x8x128, .f32⟩
  | .hbm, ⟨46, _⟩ => ⟨S8x4096x8x128, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S4096, .f32⟩
  | .hbm, ⟨56, _⟩ => ⟨S4096x1, .f32⟩
  | .hbm, ⟨57, _⟩ => ⟨S1x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S1x4096x1x16, .f32⟩
  | .hbm, ⟨63, _⟩ => ⟨S4096x16, .f32⟩
  | .hbm, ⟨64, _⟩ => ⟨S1x4096x1x16, .f32⟩
  | .hbm, ⟨65, _⟩ => ⟨S8x4096x8x32, .f32⟩
  | .hbm, ⟨66, _⟩ => ⟨S8x4096x8x16, .f32⟩
  | .hbm, ⟨67, _⟩ => ⟨S8x4096x8x16, .f32⟩
  | .hbm, ⟨68, _⟩ => ⟨S8x4096x8x16, .f32⟩
  | .hbm, ⟨69, _⟩ => ⟨S8x4096x8x16, .f32⟩
  | .hbm, ⟨70, _⟩ => ⟨S8x4096x8x16, .f32⟩
  | .hbm, ⟨71, _⟩ => ⟨S8x4096x8x16, .f32⟩
  | .hbm, ⟨72, _⟩ => ⟨S8x4096x8x16, .f32⟩
  | .hbm, ⟨73, _⟩ => ⟨S8x4096x8x16, .f32⟩
  | .hbm, ⟨74, _⟩ => ⟨S8x4096x8x16, .f32⟩
  | .hbm, ⟨75, _⟩ => ⟨S8x4096x8x16, .f32⟩
  | .hbm, ⟨76, _⟩ => ⟨S8x4096x8x16, .f32⟩
  | .hbm, ⟨77, _⟩ => ⟨S8x4096x8x16, .f32⟩
  | .hbm, ⟨78, _⟩ => ⟨S8x4096x8x32, .f32⟩
  | .hbm, ⟨79, _⟩ => ⟨S8x4096x8x96, .f32⟩
  | .hbm, ⟨80, _⟩ => ⟨S8x4096x8x128, .f32⟩
  | .hbm, ⟨81, _⟩ => ⟨S8x4096x1x1x8x128, .f32⟩
  | .hbm, ⟨82, _⟩ => ⟨S8x4096x8x128, .f32⟩
  | .hbm, ⟨83, _⟩ => ⟨S8x4096x1x8x128, .f32⟩
  | .hbm, ⟨84, _⟩ => ⟨S8x4096x1x8x128, .f32⟩
  | .hbm, ⟨85, _⟩ => ⟨S8x4096x2x8x128, .f32⟩
  | .hbm, ⟨86, _⟩ => ⟨S8x4096x2x8x16, .f32⟩
  | .hbm, ⟨87, _⟩ => ⟨S8x4096x2x8x48, .f32⟩
  | .hbm, ⟨88, _⟩ => ⟨S8x4096x2x8x16, .f32⟩
  | .hbm, ⟨89, _⟩ => ⟨S8x4096x2x8x48, .f32⟩
  | .hbm, ⟨90, _⟩ => ⟨S8x4096x2x8x128, .f32⟩
  | .hbm, ⟨91, _⟩ => ⟨S8x4096x1x8x128, .f32⟩
  | .hbm, ⟨92, _⟩ => ⟨S8x4096x3x8x128, .f32⟩
  | .hbm, ⟨93, _⟩ => ⟨S2048x16x3072, .f32⟩
  | .hbm, ⟨94, _⟩ => ⟨S16x2048x3072, .f32⟩
  | .hbm, ⟨95, _⟩ => ⟨S16x2048x3072, .bf16⟩
  | _, _ => ⟨S2048x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_cst_1 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩

abbrev nD : Nat := 1
abbrev τ : Topo := Topo.v7x

variable {F : FTy → Type} [FloatOps F]
-- ==== AttnOut.lean ====
abbrev S32768x1024 : Shape := ⟨2, ![32768, 1024]⟩
abbrev S2x1024x2048 : Shape := ⟨3, ![2, 1024, 2048]⟩
abbrev S32768x2048 : Shape := ⟨2, ![32768, 2048]⟩
abbrev S8x1x2048 : Shape := ⟨3, ![8, 1, 2048]⟩
abbrev S2048x1024 : Shape := ⟨2, ![2048, 1024]⟩
abbrev S1x1024x512 : Shape := ⟨3, ![1, 1024, 512]⟩
abbrev S2048x512 : Shape := ⟨2, ![2048, 512]⟩
abbrev S1x1x512 : Shape := ⟨3, ![1, 1, 512]⟩
abbrev S1024x512 : Shape := ⟨2, ![1024, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S2x1024x2048, .f32⟩
  | .hbm, ⟨2, _⟩ => ⟨S32768x2048, .f32⟩
  | .hbm, ⟨3, _⟩ => ⟨S8x1x2048, .f32⟩
  | .hbm, ⟨4, _⟩ => ⟨S2x1024x2048, .bf16⟩
  | .hbm, ⟨5, _⟩ => ⟨S32768x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .f32⟩
  | .local _ .vmem, ⟨5, _⟩ => ⟨S2048x512, .f32⟩
  | .local _ .vmem, ⟨6, _⟩ => ⟨S1x1x512, .f32⟩
  | .local _ .vmem, ⟨7, _⟩ => ⟨S1x1x512, .f32⟩
  | .local _ .vmem, ⟨8, _⟩ => ⟨S2048x512, .f32⟩
  | .local _ .vmem, ⟨9, _⟩ => ⟨S2048x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnOutIdeal.lean ====
abbrev S32768x1024 : Shape := ⟨2, ![32768, 1024]⟩
abbrev S2x1024x2048 : Shape := ⟨3, ![2, 1024, 2048]⟩
abbrev S32768x2048 : Shape := ⟨2, ![32768, 2048]⟩
abbrev S8x1x2048 : Shape := ⟨3, ![8, 1, 2048]⟩
abbrev S2048x1024 : Shape := ⟨2, ![2048, 1024]⟩
abbrev S1x1024x512 : Shape := ⟨3, ![1, 1024, 512]⟩
abbrev S2048x512 : Shape := ⟨2, ![2048, 512]⟩
abbrev S1x1x512 : Shape := ⟨3, ![1, 1, 512]⟩
abbrev S1024x512 : Shape := ⟨2, ![1024, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S2x1024x2048, .f32⟩
  | .hbm, ⟨2, _⟩ => ⟨S32768x2048, .f32⟩
  | .hbm, ⟨3, _⟩ => ⟨S8x1x2048, .f32⟩
  | .hbm, ⟨4, _⟩ => ⟨S2x1024x2048, .bf16⟩
  | .hbm, ⟨5, _⟩ => ⟨S32768x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .f32⟩
  | .local _ .vmem, ⟨5, _⟩ => ⟨S2048x512, .f32⟩
  | .local _ .vmem, ⟨6, _⟩ => ⟨S1x1x512, .f32⟩
  | .local _ .vmem, ⟨7, _⟩ => ⟨S1x1x512, .f32⟩
  | .local _ .vmem, ⟨8, _⟩ => ⟨S2048x512, .f32⟩
  | .local _ .vmem, ⟨9, _⟩ => ⟨S2048x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnOutRefIdeal.lean ====
abbrev S32768x1024 : Shape := ⟨2, ![32768, 1024]⟩
abbrev S2x1024x2048 : Shape := ⟨3, ![2, 1024, 2048]⟩
abbrev S32768x2048 : Shape := ⟨2, ![32768, 2048]⟩
abbrev S8x1x2048 : Shape := ⟨3, ![8, 1, 2048]⟩
abbrev S8x4096x1024 : Shape := ⟨3, ![8, 4096, 1024]⟩
abbrev S1x1024x2048 : Shape := ⟨3, ![1, 1024, 2048]⟩
abbrev S1024x2048 : Shape := ⟨2, ![1024, 2048]⟩
abbrev S8x4096x2048 : Shape := ⟨3, ![8, 4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S2x1024x2048, .f32⟩
  | .hbm, ⟨2, _⟩ => ⟨S32768x2048, .f32⟩
  | .hbm, ⟨3, _⟩ => ⟨S8x1x2048, .f32⟩
  | .hbm, ⟨4, _⟩ => ⟨S32768x1024, .f32⟩
  | .hbm, ⟨5, _⟩ => ⟨S8x4096x1024, .f32⟩
  | .hbm, ⟨6, _⟩ => ⟨S1x1024x2048, .f32⟩
  | .hbm, ⟨7, _⟩ => ⟨S1024x2048, .f32⟩
  | .hbm, ⟨8, _⟩ => ⟨S8x4096x2048, .f32⟩
  | .hbm, ⟨9, _⟩ => ⟨S8x4096x2048, .f32⟩
  | .hbm, ⟨10, _⟩ => ⟨S8x4096x2048, .f32⟩
  | .hbm, ⟨11, _⟩ => ⟨S8x4096x2048, .f32⟩
  | .hbm, ⟨12, _⟩ => ⟨S8x4096x2048, .f32⟩
  | .hbm, ⟨13, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== FourierOut.lean ====
abbrev S32768x2048 : Shape := ⟨2, ![32768, 2048]⟩
abbrev S2x2048x2048 : Shape := ⟨3, ![2, 2048, 2048]⟩
abbrev S8x1x2048 : Shape := ⟨3, ![8, 1, 2048]⟩
abbrev S2048x2048 : Shape := ⟨2, ![2048, 2048]⟩
abbrev S1x2048x512 : Shape := ⟨3, ![1, 2048, 512]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .f32⟩
  | .hbm, ⟨2, _⟩ => ⟨S32768x2048, .f32⟩
  | .hbm, ⟨3, _⟩ => ⟨S8x1x2048, .f32⟩
  | .hbm, ⟨4, _⟩ => ⟨S2x2048x2048, .bf16⟩
  | .hbm, ⟨5, _⟩ => ⟨S32768x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .f32⟩
  | .local _ .vmem, ⟨5, _⟩ => ⟨S2048x512, .f32⟩
  | .local _ .vmem, ⟨6, _⟩ => ⟨S1x1x512, .f32⟩
  | .local _ .vmem, ⟨7, _⟩ => ⟨S1x1x512, .f32⟩
  | .local _ .vmem, ⟨8, _⟩ => ⟨S2048x512, .f32⟩
  | .local _ .vmem, ⟨9, _⟩ => ⟨S2048x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FourierOutRefIdeal.lean ====
abbrev S32768x2048 : Shape := ⟨2, ![32768, 2048]⟩
abbrev S2x2048x2048 : Shape := ⟨3, ![2, 2048, 2048]⟩
abbrev S8x1x2048 : Shape := ⟨3, ![8, 1, 2048]⟩
abbrev S8x4096x2048 : Shape := ⟨3, ![8, 4096, 2048]⟩
abbrev S1x2048x2048 : Shape := ⟨3, ![1, 2048, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .f32⟩
  | .hbm, ⟨2, _⟩ => ⟨S32768x2048, .f32⟩
  | .hbm, ⟨3, _⟩ => ⟨S8x1x2048, .f32⟩
  | .hbm, ⟨4, _⟩ => ⟨S32768x2048, .f32⟩
  | .hbm, ⟨5, _⟩ => ⟨S8x4096x2048, .f32⟩
  | .hbm, ⟨6, _⟩ => ⟨S1x2048x2048, .f32⟩
  | .hbm, ⟨7, _⟩ => ⟨S2048x2048, .f32⟩
  | .hbm, ⟨8, _⟩ => ⟨S8x4096x2048, .f32⟩
  | .hbm, ⟨9, _⟩ => ⟨S8x4096x2048, .f32⟩
  | .hbm, ⟨10, _⟩ => ⟨S8x4096x2048, .f32⟩
  | .hbm, ⟨11, _⟩ => ⟨S8x4096x2048, .f32⟩
  | .hbm, ⟨12, _⟩ => ⟨S8x4096x2048, .f32⟩
  | .hbm, ⟨13, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Norm.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Router.lean ====
abbrev S32768x2048 : Shape := ⟨2, ![32768, 2048]⟩
abbrev S2048 : Shape := ⟨1, ![2048]⟩
abbrev S8x1x2048 : Shape := ⟨3, ![8, 1, 2048]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S32768x128 : Shape := ⟨2, ![32768, 128]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x16, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S1x2048, .f32⟩
  | .hbm, ⟨10, _⟩ => ⟨S32768x2048, .bf16⟩
  | .hbm, ⟨11, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x128, .bf16⟩
  | .local _ .vmem, ⟨8, _⟩ => ⟨S512x2048, .bf16⟩
  | .local _ .vmem, ⟨9, _⟩ => ⟨S512x2048, .bf16⟩
  | .local _ .vmem, ⟨10, _⟩ => ⟨S512x128, .f32⟩
  | .local _ .vmem, ⟨11, _⟩ => ⟨S512x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouterRefIdeal.lean ====
abbrev S32768x2048 : Shape := ⟨2, ![32768, 2048]⟩
abbrev S2048 : Shape := ⟨1, ![2048]⟩
abbrev S8x1x2048 : Shape := ⟨3, ![8, 1, 2048]⟩
abbrev S2048x16 : Shape := ⟨2, ![2048, 16]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S32768x16 : Shape := ⟨2, ![32768, 16]⟩
abbrev S32768x128 : Shape := ⟨2, ![32768, 128]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x16, .f32⟩
  | .hbm, ⟨5, _⟩ => ⟨S8x4096x2048, .f32⟩
  | .hbm, ⟨6, _⟩ => ⟨S8x4096x2048, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x2048, .f32⟩
  | .hbm, ⟨18, _⟩ => ⟨S8x4096x2048, .f32⟩
  | .hbm, ⟨19, _⟩ => ⟨S1x1x2048, .f32⟩
  | .hbm, ⟨20, _⟩ => ⟨S8x4096x2048, .f32⟩
  | .hbm, ⟨21, _⟩ => ⟨S8x4096x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S32768x2048, .f32⟩
  | .hbm, ⟨30, _⟩ => ⟨S32768x2048, .bf16⟩
  | .hbm, ⟨31, _⟩ => ⟨S32768x16, .f32⟩
  | .hbm, ⟨32, _⟩ => ⟨S_, .i32⟩
  | .hbm, ⟨33, _⟩ => ⟨S_, .f32⟩
  | .hbm, ⟨34, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Mod.lean ====
abbrev S32768x2048 : Shape := ⟨2, ![32768, 2048]⟩
abbrev S2048 : Shape := ⟨1, ![2048]⟩
abbrev S8x1x2048 : Shape := ⟨3, ![8, 1, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S1x2048, .f32⟩
  | .hbm, ⟨5, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModRefIdeal.lean ====
abbrev S32768x2048 : Shape := ⟨2, ![32768, 2048]⟩
abbrev S2048 : Shape := ⟨1, ![2048]⟩
abbrev S8x1x2048 : Shape := ⟨3, ![8, 1, 2048]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S8x4096x2048, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x1x2048, .f32⟩
  | .hbm, ⟨23, _⟩ => ⟨S8x1x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S32768x2048, .f32⟩
  | .hbm, ⟨29, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== NormSample.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormSampleRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== DftSeq.lean ====
abbrev S8192x4096 : Shape := ⟨2, ![8192, 4096]⟩
abbrev S8x4096x2048 : Shape := ⟨3, ![8, 4096, 2048]⟩
abbrev S8x4096x4096 : Shape := ⟨3, ![8, 4096, 4096]⟩
abbrev S1024x4096 : Shape := ⟨2, ![1024, 4096]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8x4096x2048, .bf16⟩
  | .hbm, ⟨2, _⟩ => ⟨S8x4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .bf16⟩
  | .local _ .vmem, ⟨5, _⟩ => ⟨S1x1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 arg2
  let c4_i32_3 : BitVec 32 := 4#32
  let v11 : BitVec 32 := Scalar.divsi arg0 c4_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c4_i32_3 c0_i32_6
  let v18 : BitVec 32 := Scalar.extui v17
  let c0_i32_7 : BitVec 32 := 0#32
  let v19 : BitVec 1 := Scalar.cmpi .slt c4_i32_3 c0_i32_7
  let v20 : BitVec 32 := Scalar.extui v19
  let v21 : BitVec 32 := Scalar.subi v18 v20
  let v22 : BitVec 1 := Scalar.cmpi .ne v16 v21
  let v23 : BitVec 32 := Scalar.remsi arg0 c4_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  ![arg1.toNat, v9.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DftSeqRefIdeal.lean ====
abbrev S8192x4096 : Shape := ⟨2, ![8192, 4096]⟩
abbrev S8x4096x2048 : Shape := ⟨3, ![8, 4096, 2048]⟩
abbrev S2x4096x4096 : Shape := ⟨3, ![2, 4096, 4096]⟩
abbrev S8x4096x4x512 : Shape := ⟨4, ![8, 4096, 4, 512]⟩
abbrev S8x4x512x2x4096 : Shape := ⟨5, ![8, 4, 512, 2, 4096]⟩
abbrev S8x4096x4x2x512 : Shape := ⟨5, ![8, 4096, 4, 2, 512]⟩
abbrev S8x4096x4096 : Shape := ⟨3, ![8, 4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x4096x2048, .bf16⟩
  | .hbm, ⟨2, _⟩ => ⟨S8192x4096, .f32⟩
  | .hbm, ⟨3, _⟩ => ⟨S2x4096x4096, .f32⟩
  | .hbm, ⟨4, _⟩ => ⟨S8x4096x2048, .f32⟩
  | .hbm, ⟨5, _⟩ => ⟨S8x4096x4x512, .f32⟩
  | .hbm, ⟨6, _⟩ => ⟨S8x4x512x2x4096, .f32⟩
  | .hbm, ⟨7, _⟩ => ⟨S8x4096x4x2x512, .f32⟩
  | .hbm, ⟨8, _⟩ => ⟨S8x4096x4096, .f32⟩
  | .hbm, ⟨9, _⟩ => ⟨S8x4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== DftChannel.lean ====
abbrev S32768x4096 : Shape := ⟨2, ![32768, 4096]⟩
abbrev S1024x512 : Shape := ⟨2, ![1024, 512]⟩
abbrev S32768x2048 : Shape := ⟨2, ![32768, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S32768x4096, .bf16⟩
  | .hbm, ⟨1, _⟩ => ⟨S1024x512, .bf16⟩
  | .hbm, ⟨2, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DftChannelRefIdeal.lean ====
abbrev S32768x4096 : Shape := ⟨2, ![32768, 4096]⟩
abbrev S1024x512 : Shape := ⟨2, ![1024, 512]⟩
abbrev S32768x4x1024 : Shape := ⟨3, ![32768, 4, 1024]⟩
abbrev S32768x4x512 : Shape := ⟨3, ![32768, 4, 512]⟩
abbrev S32768x2048 : Shape := ⟨2, ![32768, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S1024x512, .bf16⟩
  | .hbm, ⟨2, _⟩ => ⟨S32768x4096, .f32⟩
  | .hbm, ⟨3, _⟩ => ⟨S32768x4x1024, .f32⟩
  | .hbm, ⟨4, _⟩ => ⟨S1024x512, .f32⟩
  | .hbm, ⟨5, _⟩ => ⟨S32768x4x512, .f32⟩
  | .hbm, ⟨6, _⟩ => ⟨S32768x2048, .f32⟩
  | .hbm, ⟨7, _⟩ => ⟨S32768x2048, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.FfnUp.lean ====
/- Hand-written, untrusted: the first two products of the expert feed-forward layer. `G` is what the layer computes — of
   each expert's tokens the gate projection and the up projection, `silu` of the one times the other — as one function of
   the argument arrays. The pipelined kernel leaves `G` (`run_kernel`): what a grid point writes is `G` at the indices of
   its block (`point`), and the blocks cover the array (`final`). The reference computes `G` as well (`ref_eq`). -/
module

public import proofs.«01_k».proof.Proof.Gen.FfnUpIdeal.Value
public import proofs.«01_k».proof.Proof.Gen.FfnUpRefIdeal.Read
public import proofs.«01_k».proof.Defs
public import Idealize.ShloMosaic.Init
public import Idealize.ShloMosaic.Lib.Pipeline.ValueKit

@[expose] public section

set_option maxRecDepth 16384

noncomputable section

namespace Cert.Proof.FfnUp

open Cert.FfnUpIdeal Cert.FfnUpIdeal.Gen Idealize.ShloMosaic Idealize.ShloMosaic.TcCoe Idealize.SL.Sem
open Idealize.ShloMosaic.Pipeline (Dat)

/-- Token `c` of expert `e` projected on hidden unit `f` by the weights of layer 1. -/
def proj (x : FVec Ideal S16x4096x2048 .bf16) (w : FVec Ideal S4x16x2048x4096 .f32) (e : Fin 16) (c f : Fin 4096) : EReal :=
  ∑ k : Fin 2048, x (ix3 e c k) * w (ix4 1 e k f)

/-- The hidden activation of expert `e` for its token `c` at unit `f`: the gate projection `a` times `1 / (1 + exp (-a))`,
    times the up projection. -/
def G (x : FVec Ideal S16x4096x2048 .bf16) (wg wu : FVec Ideal S4x16x2048x4096 .f32) : FVec Ideal S16x4096x4096 .bf16 :=
  fun i => proj x wg (i 0) (i 1) (i 2) * Ideal.logistic (proj x wg (i 0) (i 1) (i 2)) * proj x wu (i 0) (i 1) (i 2)

variable (m : (ℓ : Loc nD τ sig) → Buf (Elt Ideal) ℓ)

/-- The block of each window at a grid point: experts outermost, then the two halves of an expert's tokens, then the
    eight tiles of hidden units. -/
theorem idx : ∀ t : Fin cfg0.N, win0_0.index t = ![(grid0.coords t 0).val, (grid0.coords t 1).val, 0]
    ∧ win0_1.index t = ![1, (grid0.coords t 0).val, 0, (grid0.coords t 2).val]
    ∧ win0_2.index t = ![1, (grid0.coords t 0).val, 0, (grid0.coords t 2).val]
    ∧ win0_3.index t = ![(grid0.coords t 0).val, (grid0.coords t 1).val, (grid0.coords t 2).val] :=
  (by decide +kernel : ∀ t : Fin grid0.N, _)

/-- What the body stores at an index of its block is `G` at the array index the block puts it at. -/
theorem point (c : Dev nD) (t : Fin cfg0.N) (y) : k0_pay1 (iblk m c 0 t) (iblk m c 1 t) (iblk m c 2 t) y
    = G (m ((c : Thread nD τ).loc main_arg0)) (m ((c : Thread nD τ).loc main_arg1)) (m ((c : Thread nD τ).loc main_arg2))
        (((cfg0.win 3).blk t).view.emb y) := by
  pointwise [k0_pay1, G, proj]
  blk_point [iblk, V, idx t]

/-- The result array after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The reference's operations, read at an index, give `G`. -/
theorem ref_eq (x : FVec Ideal S16x4096x2048 .bf16) (wg wu : FVec Ideal S4x16x2048x4096 .f32) :
    Cert.FfnUpRefIdeal.Read.val_main_v9 (F := Ideal) x wg wu = G x wg wu := by
  unfold Cert.FfnUpRefIdeal.Read.val_main_v9 Cert.FfnUpRefIdeal.Read.val_main_v8 Cert.FfnUpRefIdeal.Read.val_main_v7
    Cert.FfnUpRefIdeal.Read.val_main_v6 Cert.FfnUpRefIdeal.Read.val_main_v5 Cert.FfnUpRefIdeal.Read.val_main_v4
    Cert.FfnUpRefIdeal.Read.val_main_v3 Cert.FfnUpRefIdeal.Read.val_main_v2 Cert.FfnUpRefIdeal.Read.val_main_v1
    Cert.FfnUpRefIdeal.Read.val_main_v0 Cert.FfnUpRefIdeal.Read.val_main_call0_v5 Cert.FfnUpRefIdeal.Read.val_main_call0_v4
    Cert.FfnUpRefIdeal.Read.val_main_call0_v3 Cert.FfnUpRefIdeal.Read.val_main_call0_v2
    Cert.FfnUpRefIdeal.Read.val_main_call0_v1 Cert.FfnUpRefIdeal.Read.val_main_call0_v0
    Cert.FfnUpRefIdeal.Read.val_main_call0_cst Cert.FfnUpRefIdeal.Read.val_main_call0_cst_0
  unfold Cert.FfnUpRefIdeal.Read.val_main_v3 Cert.FfnUpRefIdeal.Read.val_main_v2 Cert.FfnUpRefIdeal.Read.val_main_v1
    Cert.FfnUpRefIdeal.Read.val_main_v0
  funext i
  pointwise [G, proj]
  rfl

/-- The kernel's run, its result array at `G` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.FfnUpIdeal.Value.run_blocks m g)

/-- The claim: from arguments that agree, the kernel and the reference end with the same result, `G` of the arguments. -/
theorem algebraic : algebraic_FfnUpIdeal_FfnUpRefIdeal (hFfnUpIdeal := Cert.FfnUpIdeal.Gen.facts)
    (hFfnUpRefIdeal := Cert.FfnUpRefIdeal.Gen.facts) := by
  intro m g m' g' _ hargs
  refine ⟨fun c => G (m ((c : Thread nD τ).loc main_arg0)) (m ((c : Thread nD τ).loc main_arg1))
    (m ((c : Thread nD τ).loc main_arg2)), run_kernel m g, ?_⟩
  refine (θ_run Cert.FfnUpRefIdeal.defs _ _).mono (fun r h c => ?_) (Cert.FfnUpRefIdeal.Value.run (F := Ideal) m' g')
  obtain ⟨h0, h1, h2⟩ := hargs c
  refine ⟨(h c).1.trans ?_, (h c).2⟩
  rw [Cert.FfnUpRefIdeal.Read.val_main_v9_eq, h0, h1, h2]
  exact ref_eq _ _ _

/-- The reference's frame: its arguments are unchanged, and it declares no semaphore. -/
theorem frame_ref : quiescent_FfnUpRefIdeal (hFfnUpRefIdeal := Cert.FfnUpRefIdeal.Gen.facts) := fun m g _ =>
  (θ_run Cert.FfnUpRefIdeal.defs _ _).mono (fun r h => ⟨fun c => (h c).2, sem_eq_zero_of_no_sems (by decide) r.2⟩)
    (Cert.FfnUpRefIdeal.Value.run (F := Ideal) m g)

end Cert.Proof.FfnUp

end
-- ==== Proof.FfnDown.lean ====
/- Hand-written, untrusted: the second product of the expert feed-forward layer. `G` is what the layer computes — each
   expert's hidden activations times that expert's down projection, every row scaled by the gate of its token — as one
   function of the argument arrays. The pipelined kernel leaves `G` (`run_kernel`): what a grid point writes is `G` at the
   indices of its block (`point`), and the blocks cover the array (`final`). The reference computes `G` as well
   (`ref_eq`, `run_ref`). -/
module

public import proofs.«01_k».proof.Proof.Gen.FfnDownIdeal.Value
public import proofs.«01_k».proof.Proof.Gen.FfnDownRefIdeal.Read
public import proofs.«01_k».proof.Defs
public import Idealize.ShloMosaic.Init
public import Idealize.ShloMosaic.Lib.Pipeline.ValueKit

@[expose] public section

set_option maxRecDepth 16384

noncomputable section

namespace Cert.Proof.FfnDown

open Cert.FfnDownIdeal Cert.FfnDownIdeal.Gen Idealize.ShloMosaic Idealize.ShloMosaic.TcCoe Idealize.SL.Sem
open Idealize.ShloMosaic.Pipeline (Dat)

/-- The gated output of expert `e` for its token `c` at feature `d`: the sum over the hidden units of the activation
    times the weight of layer 1, times the token's gate. -/
def G (hid : FVec Ideal S16x4096x4096 .bf16) (w : FVec Ideal S4x16x4096x2048 .f32) (gates : FVec Ideal S16x4096x1 .f32) :
    FVec Ideal S16x4096x2048 .bf16 :=
  fun i => (∑ k : Fin 4096, hid (ix3 (i 0) (i 1) k) * w (ix4 1 (i 0) k (i 2))) * gates (ix3 (i 0) (i 1) 0)

variable (m : (ℓ : Loc nD τ sig) → Buf (Elt Ideal) ℓ)

/-- The block of each window at a grid point: experts outermost, then the two halves of an expert's tokens, then the
    eight column tiles. -/
theorem idx : ∀ t : Fin cfg0.N, win0_0.index t = ![(grid0.coords t 0).val, (grid0.coords t 1).val, 0]
    ∧ win0_1.index t = ![1, (grid0.coords t 0).val, 0, (grid0.coords t 2).val]
    ∧ win0_2.index t = ![(grid0.coords t 0).val, (grid0.coords t 1).val, 0]
    ∧ win0_3.index t = ![(grid0.coords t 0).val, (grid0.coords t 1).val, (grid0.coords t 2).val] :=
  (by decide +kernel : ∀ t : Fin grid0.N, _)

/-- What the body stores at an index of its block is `G` at the array index the block puts it at. -/
theorem point (c : Dev nD) (t : Fin cfg0.N) (y) : k0_pay1 (iblk m c 0 t) (iblk m c 1 t) (iblk m c 2 t) y
    = G (m ((c : Thread nD τ).loc main_arg0)) (m ((c : Thread nD τ).loc main_arg1)) (m ((c : Thread nD τ).loc main_arg2))
        (((cfg0.win 3).blk t).view.emb y) := by
  pointwise [k0_pay1, G]
  blk_point [iblk, V, idx t]

/-- The result array after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The reference's operations, read at an index, give `G`. -/
theorem ref_eq (hid : FVec Ideal S16x4096x4096 .bf16) (w : FVec Ideal S4x16x4096x2048 .f32) (gates : FVec Ideal S16x4096x1 .f32) :
    Cert.FfnDownRefIdeal.Read.val_main_v6 (F := Ideal) hid w gates = G hid w gates := by
  unfold Cert.FfnDownRefIdeal.Read.val_main_v6 Cert.FfnDownRefIdeal.Read.val_main_v5 Cert.FfnDownRefIdeal.Read.val_main_v4
    Cert.FfnDownRefIdeal.Read.val_main_v3 Cert.FfnDownRefIdeal.Read.val_main_v2 Cert.FfnDownRefIdeal.Read.val_main_v1
    Cert.FfnDownRefIdeal.Read.val_main_v0
  funext i
  pointwise [G]

/-- The kernel's run, its result array at `G` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.FfnDownIdeal.Value.run_blocks m g)

/-- The claim: from arguments that agree, the kernel and the reference end with the same result, `G` of the arguments. -/
theorem algebraic : algebraic_FfnDownIdeal_FfnDownRefIdeal (hFfnDownIdeal := Cert.FfnDownIdeal.Gen.facts)
    (hFfnDownRefIdeal := Cert.FfnDownRefIdeal.Gen.facts) := by
  intro m g m' g' _ hargs
  refine ⟨fun c => G (m ((c : Thread nD τ).loc main_arg0)) (m ((c : Thread nD τ).loc main_arg1))
    (m ((c : Thread nD τ).loc main_arg2)), run_kernel m g, ?_⟩
  refine (θ_run Cert.FfnDownRefIdeal.defs _ _).mono (fun r h c => ?_) (Cert.FfnDownRefIdeal.Value.run (F := Ideal) m' g')
  obtain ⟨h0, h1, h2⟩ := hargs c
  refine ⟨(h c).1.trans ?_, (h c).2⟩
  rw [Cert.FfnDownRefIdeal.Read.val_main_v6_eq, h0, h1, h2]
  exact ref_eq _ _ _

/-- The reference's frame: its arguments are unchanged, and it declares no semaphore. -/
theorem frame_ref : quiescent_FfnDownRefIdeal (hFfnDownRefIdeal := Cert.FfnDownRefIdeal.Gen.facts) := fun m g _ =>
  (θ_run Cert.FfnDownRefIdeal.defs _ _).mono (fun r h => ⟨fun c => (h c).2, sem_eq_zero_of_no_sems (by decide) r.2⟩)
    (Cert.FfnDownRefIdeal.Value.run (F := Ideal) m g)

end Cert.Proof.FfnDown

end
-- ==== Proof.Attn.Row.lean ====
/- Hand-written, untrusted: one row of softmax attention over the extended reals, and the band. A row is given by the
   masked scores of one query against all keys (`⊥` where the key is out of the band) and by the values of the keys. The
   fact that carries the proofs: the word the kernel computes for "key within the band of the query" is the comparison of
   the positions (`band_word`). -/
module

public import Idealize.ShloMosaic.Init
public import Idealize.ShloMosaic.Lib.Pipeline.ValueKit

@[expose] public section

noncomputable section

namespace Cert.Proof.Attn

open Idealize.ShloMosaic

/-- Positions `l` and `m` are at most 64 apart. -/
def Near (l m : ℕ) : Prop := l ≤ m + 64 ∧ m ≤ l + 64

instance (l m : ℕ) : Decidable (Near l m) := inferInstanceAs (Decidable (_ ∧ _))

/-- The scale `1 / √128` as the program's literal has it. -/
def scale : EReal := Ideal.ofBits .f32 0x3DB504F3#32

/-- The masked score of a query at position `l` and a key at position `m` whose product is `d`. -/
def score (l m : ℕ) (d : EReal) : EReal := if Near l m then d * scale else ⊥

/-- The largest score of a row. -/
def top {n : ℕ} (s : Fin n → EReal) : EReal := Finset.univ.fold max ⊥ s

/-- The denominator of a row. -/
def den {n : ℕ} (s : Fin n → EReal) : EReal := ∑ j, Ideal.exp (s j - top s)

/-- The output of a row for values `v` of the keys. -/
def out {n : ℕ} (s v : Fin n → EReal) : EReal := Ideal.div (∑ j, Ideal.exp (s j - top s) * v j) (den s)

/-- The logarithm of the sum of the exponentials of a row's scores. -/
def lse {n : ℕ} (s : Fin n → EReal) : EReal := top s + Ideal.log (den s)

/-- The difference of two small positions as a signed word. -/
theorem sub_toInt {l m : ℕ} (hl : l < 2 ^ 20) (hm : m < 2 ^ 20) :
    (BitVec.ofNat 32 l - BitVec.ofNat 32 m).toInt = (l : ℤ) - m := by
  rw [BitVec.toInt_sub, BitVec.toInt_ofNat', BitVec.toInt_ofNat']
  simp only [Int.bmod_def]
  omega

/-- The word "the distance of `l` and `m` is at most 64" is 1 exactly at near positions. -/
theorem band_word {l m : ℕ} (hl : l < 2 ^ 20) (hm : m < 2 ^ 20) :
    IntOp.cmpi .sle (IntOp.absi (IntOp.subi (BitVec.ofNat 32 l) (BitVec.ofNat 32 m))) 64#32
      = if Near l m then 1#1 else 0#1 := by
  have hz := sub_toInt hl hm
  change IntOp.cmpi .sle (IntOp.absi (BitVec.ofNat 32 l - BitVec.ofNat 32 m)) 64#32 = _
  generalize BitVec.ofNat 32 l - BitVec.ofNat 32 m = z at hz
  have ha : (IntOp.absi z).toInt ≤ (64#32 : BitVec 32).toInt ↔ Near l m := by
    rw [show (64#32 : BitVec 32).toInt = 64 from rfl]
    unfold IntOp.absi Near
    rw [BitVec.msb_eq_toInt]
    by_cases h : z.toInt < 0
    · rw [if_pos (by simpa using h), BitVec.toInt_neg, hz, Int.bmod_def]
      split <;> omega
    · rw [if_neg (by simpa using h), hz]
      omega
  change BitVec.ofBool (BitVec.sle (IntOp.absi z) 64#32) = _
  rw [Bool.eq_iff_iff.mpr ((BitVec.sle_iff_toInt_le).trans (ha.trans (decide_eq_true_iff (p := Near l m)).symm))]
  by_cases h : Near l m
  · rw [if_pos h, decide_eq_true h]; rfl
  · rw [if_neg h, decide_eq_false h]; rfl

/-- The same word where the positions are counted from `q0` and from `k0`. -/
theorem band_word_at {q0 i k0 j : ℕ} (hl : q0 + i < 2 ^ 20) (hm : k0 + j < 2 ^ 20) :
    IntOp.cmpi .sle (IntOp.absi (IntOp.subi (IntOp.addi (BitVec.ofNat 32 q0) (BitVec.ofNat 32 i))
      (IntOp.addi (BitVec.ofNat 32 k0) (BitVec.ofNat 32 j)))) 64#32 = if Near (q0 + i) (k0 + j) then 1#1 else 0#1 := by
  rw [← band_word hl hm, BitVec.ofNat_add, BitVec.ofNat_add]; rfl

/-- The words `w` are the band of 128 queries from position `q0` on against the keys from position `k0` on. -/
def IsBand {n : ℕ} (q0 k0 : ℕ) (w : Fin 128 → Fin n → BitVec 1) : Prop :=
  ∀ i j, w i j = if Near (q0 + i.val) (k0 + j.val) then 1#1 else 0#1

/-- A select on the band's word is the masked score. -/
theorem select_band {l m : ℕ} (d : EReal) (w : BitVec 1) (hw : w = if Near l m then 1#1 else 0#1) :
    Scalar.select w (d * Ideal.ofBits .f32 0x3DB504F3#32) (⊥ : EReal) = score l m d := by
  subst hw; unfold score scale
  by_cases h : Near l m
  · rw [if_pos h, if_pos h]; rfl
  · rw [if_neg h, if_neg h]; rfl

end Cert.Proof.Attn

end
-- ==== Proof.Attn.Lanes.lean ====
/- Hand-written, untrusted: the lanes of the second result. A block of 128 lanes holds one number a head, each head's number in
   sixteen lanes. The kernel writes a head's numbers into its lanes by a select (`pick`), head after head, and stores such a block
   over half of a block of zeros or over a part of it (`canon_halves`). -/
module

public import proofs.«01_k».proof.Proof.Attn.Row
public import Idealize.ShloMosaic.Lib.Pipeline.ValueKit

@[expose] public section

noncomputable section

namespace Cert.Proof.Attn

open Idealize.ShloMosaic

/-- Blocks of 128 queries by 128 lanes. -/
abbrev Lanes : Shape := ⟨2, ![128, 128]⟩

/-- A column of 128 queries. -/
abbrev Column : Shape := ⟨2, ![128, 1]⟩

/-- One head's numbers, `tops + log dens`, put into the lanes whose word is `e`; the other lanes stay as in `X`. -/
def pick (w : IVec Lanes 32) (e : BitVec 32) (tops dens : FVec Ideal Column .f32) (X : FVec Ideal Lanes .f32) : FVec Ideal Lanes .f32 :=
  select (cmpi .eq w (broadcast Lanes e))
    (broadcastTo Lanes (shapeCast Column (addf tops (log dens)) (by decide)) (by decide)) X

/-- At an index: the head's number where the word is `e`, what was there elsewhere. -/
theorem pick_apply (w : IVec Lanes 32) (e : BitVec 32) (tops dens : FVec Ideal Column .f32) (X : FVec Ideal Lanes .f32)
    (i l : Fin 128) : pick w e tops dens X (ix2 i l)
      = if w (ix2 i l) = e then tops (ix2 i 0) + Ideal.log (dens (ix2 i 0)) else X (ix2 i l) := by
  pointwise [pick]
  by_cases h : w (ix2 i l) = e
  · simp [Scalar.select, IntOp.cmpi, h]
  · have hb : (w (ix2 i l) == e) = false := by simpa using h
    simp [Scalar.select, IntOp.cmpi, hb, h]

/-- The last two pieces of a list of writes cover an index; then only their values there count. -/
theorem canon_halves {S : Shape} {e : EltTy} {Val : EltTy → Type} [∀ e, Nonempty (Val e)] (r1 r0 : Rect S) (w1 : r1.shape.Idx → Val e)
    (w0 : r0.shape.Idx → Val e) (L : List (View.Piece Val S e)) (y : S.Idx) (v : Val e) (hc : y ∈ r1.set ∨ y ∈ r0.set)
    (h1 : ∀ x, r1.emb x = y → w1 x = v) (h0 : ∀ x, r0.emb x = y → w0 x = v) :
    View.canon (⟨r1, w1⟩ :: ⟨r0, w0⟩ :: L) y = v := by
  by_cases hm : y ∈ r1.set
  · obtain ⟨x, rfl⟩ := r1.exists_idx_of_mem hm
    exact (View.canon_cons_emb r1 w1 _ x).trans (h1 x rfl)
  · rw [View.canon_cons_of_not_mem _ _ hm]
    obtain ⟨x, rfl⟩ := r0.exists_idx_of_mem (hc.resolve_left hm)
    exact (View.canon_cons_emb r0 w0 _ x).trans (h0 x rfl)

end Cert.Proof.Attn

end
-- ==== Proof.Attn.Attn16.lean ====
/- Hand-written, untrusted: attention in a band at dilation 16 (a residue class holds 256 positions, so that the kernel's
   window of keys is the whole class). -/
module

public import proofs.«01_k».proof.Proof.Attn.Lanes
public import proofs.«01_k».proof.Proof.Gen.Attn16Ideal.Value
public import proofs.«01_k».proof.Defs

@[expose] public section

set_option maxRecDepth 16384

noncomputable section

namespace Cert.Proof.Attn16

open Cert.Attn16Ideal Cert.Attn16Ideal.Gen Idealize.ShloMosaic Idealize.ShloMosaic.TcCoe Idealize.SL.Sem
open Idealize.ShloMosaic.Pipeline (Dat)
open Cert.Proof.Attn

/-- The masked scores of head `h` for the query at position `l` of residue class `r` of sequence `b`. -/
def row (x : FVec Ideal S16x8x256x3072 .bf16) (r : Fin 16) (b : Fin 8) (h : Fin 8) (l : Fin 256) : Fin 256 → EReal :=
  fun j => score l j (∑ d : Fin 128, x (ix4 r b l ⟨128 * h + d, by omega⟩) * x (ix4 r b j ⟨1024 + 128 * h + d, by omega⟩))

/-- Channel `d` of the output of head `h` for that query. -/
def oAt (x : FVec Ideal S16x8x256x3072 .bf16) (r : Fin 16) (b : Fin 8) (h : Fin 8) (l : Fin 256) (d : Fin 128) : EReal :=
  out (row x r b h l) fun j => x (ix4 r b j ⟨2048 + 128 * h + d, by omega⟩)

/-- The logarithm of the sum of exponentials of head `h` for that query. -/
def lAt (x : FVec Ideal S16x8x256x3072 .bf16) (r : Fin 16) (b : Fin 8) (h : Fin 8) (l : Fin 256) : EReal := lse (row x r b h l)

/-- The attention output: channel `c` is channel `c % 128` of head `c / 128`. -/
def outArr (x : FVec Ideal S16x8x256x3072 .bf16) : FVec Ideal S16x8x256x1024 .bf16 :=
  fun i => oAt x (i 0) (i 1) ⟨(i 3 : ℕ) / 128, by have : (i 3 : ℕ) < 1024 := (i 3).isLt; omega⟩ (i 2) ⟨(i 3 : ℕ) % 128, by omega⟩

/-- The logarithms of the sums of exponentials: lane `c` is head `c / 16`. -/
def lseArr (x : FVec Ideal S16x8x256x3072 .bf16) : FVec Ideal S16x8x256x128 .f32 :=
  fun i => lAt x (i 0) (i 1) ⟨(i 3 : ℕ) / 16, by have : (i 3 : ℕ) < 128 := (i 3).isLt; omega⟩ (i 2)

/-- The output array at an index of given coordinates. -/
theorem outArr_at (x : FVec Ideal S16x8x256x3072 .bf16) (i : S16x8x256x1024.Idx) (r : Fin 16) (b h : Fin 8) (l : Fin 256)
    (d : Fin 128) (h0 : (i 0 : ℕ) = r) (h1 : (i 1 : ℕ) = b) (h2 : (i 2 : ℕ) = l) (h3 : (i 3 : ℕ) = 128 * h + d) :
    outArr x i = oAt x r b h l d := by
  obtain rfl : i 0 = r := Fin.ext h0
  obtain rfl : i 1 = b := Fin.ext h1
  obtain rfl : i 2 = l := Fin.ext h2
  unfold outArr
  congr 1 <;> (apply Fin.ext; dsimp only; omega)

/-- The masked scores of one head of one block of queries, where the band's words are those of queries from `q0` on. -/
theorem scores (w : IVec S128x256 1) (q : FVec Ideal S1x1x128x128 .bf16) (k : FVec Ideal S1x1x256x128 .bf16) (q0 : ℕ)
    (hw : IsBand q0 0 fun i j => w (ix2 i j)) (i : Fin 128) (j : Fin 256) :
    k0_pay13 (F := Ideal) w q k (ix2 i j) = score (q0 + i) j (∑ d : Fin 128, q (ix4 0 0 i d) * k (ix4 0 0 j d)) := by
  pointwise [k0_pay13]
  exact select_band _ _ ((hw i j).trans (by rw [Nat.zero_add]))

/-- The largest scores. -/
theorem tops (w : IVec S128x256 1) (q : FVec Ideal S1x1x128x128 .bf16) (k : FVec Ideal S1x1x256x128 .bf16) (i : Fin 128)
    (z : Fin 1) : k0_pay14 (F := Ideal) w q k (ix2 i z) = top fun j => k0_pay13 (F := Ideal) w q k (ix2 i j) := by
  pointwise [k0_pay14]
  rfl

/-- The denominators. -/
theorem dens (w : IVec S128x256 1) (q : FVec Ideal S1x1x128x128 .bf16) (k : FVec Ideal S1x1x256x128 .bf16) (i : Fin 128)
    (z : Fin 1) : k0_pay16 (F := Ideal) w q k (ix2 i z) = den fun j => k0_pay13 (F := Ideal) w q k (ix2 i j) := by
  pointwise [k0_pay16, k0_pay15]
  simp only [tops]
  rfl

/-- The outputs. -/
theorem outs (w : IVec S128x256 1) (q : FVec Ideal S1x1x128x128 .bf16) (k v : FVec Ideal S1x1x256x128 .bf16)
    (a b : Fin 1) (i d : Fin 128) : k0_pay17 (F := Ideal) w q k v (ix4 a b i d)
      = out (fun j => k0_pay13 (F := Ideal) w q k (ix2 i j)) fun j => v (ix4 0 0 j d) := by
  pointwise [k0_pay17, k0_pay15]
  simp only [tops, dens]
  rfl

/-- The logarithms of the sums of exponentials. -/
theorem lses (w : IVec S128x256 1) (q : FVec Ideal S1x1x128x128 .bf16) (k : FVec Ideal S1x1x256x128 .bf16) (i : Fin 128)
    (z : Fin 1) : addf (k0_pay14 (F := Ideal) w q k) (log (k0_pay16 (F := Ideal) w q k)) (ix2 i z)
      = lse (fun j => k0_pay13 (F := Ideal) w q k (ix2 i j)) := by
  pointwise []
  simp only [tops, dens]
  rfl

/-- The band of the first 128 queries. -/
theorem band0 : IsBand 0 0 fun i (j : Fin 256) => k0_pay5 k0_pay4 (ix2 i j) := fun i j => by
  refine Eq.trans ?_ (band_word_at (by omega) (by omega))
  pointwise [k0_pay5, k0_pay4]
  rfl

/-- The band of the last 128 queries. -/
theorem band1 : IsBand 128 0 fun i (j : Fin 256) => k0_pay55 (ix2 i j) := fun i j => by
  refine Eq.trans ?_ (band_word_at (by omega) (by omega))
  pointwise [k0_pay55]
  rfl

/-- Where the loads of a block of queries and of the keys and values hold head `h` of class `r` of sequence `b`, the
    scores are the rows of that head. -/
theorem scores_row (x : FVec Ideal S16x8x256x3072 .bf16) (r : Fin 16) (b h : Fin 8) (q0 : ℕ) (hq0 : q0 + 128 ≤ 256)
    (w : IVec S128x256 1) (q : FVec Ideal S1x1x128x128 .bf16) (k : FVec Ideal S1x1x256x128 .bf16)
    (hw : IsBand q0 0 fun i j => w (ix2 i j))
    (hq : ∀ i d : Fin 128, q (ix4 0 0 i d) = x (ix4 r b ⟨q0 + i, by omega⟩ ⟨128 * h + d, by omega⟩))
    (hk : ∀ (j : Fin 256) (d : Fin 128), k (ix4 0 0 j d) = x (ix4 r b j ⟨1024 + 128 * h + d, by omega⟩)) (i : Fin 128) :
    (fun j => k0_pay13 (F := Ideal) w q k (ix2 i j)) = row x r b h ⟨q0 + i, by omega⟩ := by
  funext j
  rw [scores w q k q0 hw]
  simp only [hq, hk]
  rfl

/-- What a load of a rectangle of a block reads. -/
theorem ld_tile (X : Vec Ideal S1x1x256x1024 .bf16) (o2 o3 n2 n3 : ℕ)
    (inb : ∀ a, (![0, 0, o2, o3] : Fin 4 → ℕ) a + (![1, 1, n2, n3] : Fin 4 → ℕ) a ≤ S1x1x256x1024.size a)
    (i : Fin n2) (d : Fin n3) (i' : Fin 256) (d' : Fin 1024) (hi : (i' : ℕ) = o2 + i) (hd : (d' : ℕ) = o3 + d) :
    View.ld (Val := Elt Ideal) (e' := .bf16) X (Rect.unit ![0, 0, o2, o3] ![1, 1, n2, n3] inb) (ix4 0 0 i d) = X (ix4 0 0 i' d') := by
  refine congrArg X (funext fun a => Fin.ext ?_)
  fin_cases a
  · rfl
  · rfl
  · show o2 + 1 * (i : ℕ) = i'; omega
  · show o3 + 1 * (d : ℕ) = d'; omega

variable (m : (ℓ : Loc nD τ sig) → Buf (Elt Ideal) ℓ)

/-- The block of each window at a grid point: residue classes outermost. -/
theorem idx : ∀ t : Fin cfg0.N, win0_0.index t = ![(grid0.coords t 1).val, (grid0.coords t 0).val, 0, 0]
    ∧ win0_1.index t = ![(grid0.coords t 1).val, (grid0.coords t 0).val, 0, 1]
    ∧ win0_2.index t = ![(grid0.coords t 1).val, (grid0.coords t 0).val, 0, 2]
    ∧ win0_3.index t = ![(grid0.coords t 1).val, (grid0.coords t 0).val, 0, 0]
    ∧ win0_4.index t = ![(grid0.coords t 1).val, (grid0.coords t 0).val, 0, 0] :=
  (by decide +kernel : ∀ t : Fin grid0.N, _)

/-- One store of the output block. -/
theorem piece (c : Dev nD) (t : Fin cfg0.N) (w : IVec S128x256 1) (q0 : ℕ) (hq0 : q0 + 128 ≤ 256) (h : Fin 8)
    (q : FVec Ideal S1x1x128x128 .bf16) (k v : FVec Ideal S1x1x256x128 .bf16)
    (hw : IsBand q0 0 fun i j => w (ix2 i j))
    (hq : ∀ i d : Fin 128, q (ix4 0 0 i d) = iblk m c 0 t (ix4 0 0 ⟨q0 + i, by omega⟩ ⟨128 * h + d, by omega⟩))
    (hk : ∀ (i : Fin 256) (d : Fin 128), k (ix4 0 0 i d) = iblk m c 1 t (ix4 0 0 i ⟨128 * h + d, by omega⟩))
    (hv : ∀ (i : Fin 256) (d : Fin 128), v (ix4 0 0 i d) = iblk m c 2 t (ix4 0 0 i ⟨128 * h + d, by omega⟩))
    (y : S1x1x128x128.Idx) (z : S1x1x256x1024.Idx) (hz2 : (z 2 : ℕ) = q0 + y 2) (hz3 : (z 3 : ℕ) = 128 * h + y 3) :
    k0_pay17 (F := Ideal) w q k v y = outArr (m ((c : Thread nD τ).loc main_arg0)) (((cfg0.win 3).blk t).view.emb z) := by
  obtain ⟨a, b, i, d, rfl⟩ : ∃ (a b : Fin 1) (i d : Fin 128), y = ix4 a b i d := ⟨y 0, y 1, y 2, y 3, eq_ix4 y⟩
  have hz2' : (z 2 : ℕ) = q0 + i := hz2
  have hz3' : (z 3 : ℕ) = 128 * h + d := hz3
  refine (outs w q k v a b i d).trans ?_
  rw [scores_row (m ((c : Thread nD τ).loc main_arg0)) (grid0.coords t 1) (grid0.coords t 0) h q0 hq0 w q k hw
    (fun i d => by rw [hq]; blk_point [iblk, V, idx t]) (fun i d => by rw [hk]; blk_point [iblk, V, idx t])]
  rw [outArr_at _ _ (grid0.coords t 1) (grid0.coords t 0) h ⟨q0 + (i : ℕ), by omega⟩ d
    (by blk_simp [idx t]) (by blk_simp [idx t]) (by blk_simp [idx t]; dsimp only; omega) (by blk_simp [idx t]; omega)]
  unfold oAt
  congr 1
  funext j
  rw [hv]; blk_point [iblk, V, idx t]

/-- One store of the output block, of what the loads of the block read. -/
theorem store (c : Dev nD) (t : Fin cfg0.N) (w : IVec S128x256 1) (q0 : ℕ) (hq0 : q0 + 128 ≤ 256) (h : Fin 8) (inb inb' inb'')
    (hw : IsBand q0 0 fun i j => w (ix2 i j)) (y : S1x1x128x128.Idx) (z : S1x1x256x1024.Idx)
    (hz2 : (z 2 : ℕ) = q0 + y 2) (hz3 : (z 3 : ℕ) = 128 * h + y 3) :
    k0_pay17 (F := Ideal) w
      (View.ld (Val := Elt Ideal) (e' := .bf16) (iblk m c 0 t) (Rect.unit ![0, 0, q0, 128 * h] ![1, 1, 128, 128] inb))
      (View.ld (Val := Elt Ideal) (e' := .bf16) (iblk m c 1 t) (Rect.unit ![0, 0, 0, 128 * h] ![1, 1, 256, 128] inb'))
      (View.ld (Val := Elt Ideal) (e' := .bf16) (iblk m c 2 t) (Rect.unit ![0, 0, 0, 128 * h] ![1, 1, 256, 128] inb'')) y
      = outArr (m ((c : Thread nD τ).loc main_arg0)) (((cfg0.win 3).blk t).view.emb z) :=
  piece m c t w q0 hq0 h _ _ _ hw (fun i d => ld_tile _ _ _ _ _ _ i d _ _ rfl rfl)
    (fun i d => ld_tile _ _ _ _ _ _ i d _ _ (Nat.zero_add _).symm rfl)
    (fun i d => ld_tile _ _ _ _ _ _ i d _ _ (Nat.zero_add _).symm rfl) y z hz2 hz3

/-- What a point leaves in the output's block: the stores of the last 128 queries and of the first, heads downwards. -/
theorem point3 (c : Dev nD) (t : Fin cfg0.N) (y) : (dats m 0 c).after 3 t y
    = outArr (m ((c : Thread nD τ).loc main_arg0)) (((cfg0.win 3).blk t).view.emb y) := by
  rw [after0_3]; unfold Gen.outsAt0; frame_out
  canon_tiles x h
  · exact store m c t k0_pay55 128 (by omega) 7 _ _ _ band1 x y (by omega) (by omega)
  · exact store m c t k0_pay55 128 (by omega) 6 _ _ _ band1 x y (by omega) (by omega)
  · exact store m c t k0_pay55 128 (by omega) 5 _ _ _ band1 x y (by omega) (by omega)
  · exact store m c t k0_pay55 128 (by omega) 4 _ _ _ band1 x y (by omega) (by omega)
  · exact store m c t k0_pay55 128 (by omega) 3 _ _ _ band1 x y (by omega) (by omega)
  · exact store m c t k0_pay55 128 (by omega) 2 _ _ _ band1 x y (by omega) (by omega)
  · exact store m c t k0_pay55 128 (by omega) 1 _ _ _ band1 x y (by omega) (by omega)
  · exact store m c t k0_pay55 128 (by omega) 0 _ _ _ band1 x y (by omega) (by omega)
  · exact store m c t (k0_pay5 k0_pay4) 0 (by omega) 7 _ _ _ band0 x y (by omega) (by omega)
  · exact store m c t (k0_pay5 k0_pay4) 0 (by omega) 6 _ _ _ band0 x y (by omega) (by omega)
  · exact store m c t (k0_pay5 k0_pay4) 0 (by omega) 5 _ _ _ band0 x y (by omega) (by omega)
  · exact store m c t (k0_pay5 k0_pay4) 0 (by omega) 4 _ _ _ band0 x y (by omega) (by omega)
  · exact store m c t (k0_pay5 k0_pay4) 0 (by omega) 3 _ _ _ band0 x y (by omega) (by omega)
  · exact store m c t (k0_pay5 k0_pay4) 0 (by omega) 2 _ _ _ band0 x y (by omega) (by omega)
  · exact store m c t (k0_pay5 k0_pay4) 0 (by omega) 1 _ _ _ band0 x y (by omega) (by omega)
  · exact store m c t (k0_pay5 k0_pay4) 0 (by omega) 0 _ _ _ band0 x y (by omega) (by omega)

/-- The logarithms' array at an index of given coordinates. -/
theorem lseArr_at (x : FVec Ideal S16x8x256x3072 .bf16) (i : S16x8x256x128.Idx) (r : Fin 16) (b h : Fin 8) (l : Fin 256)
    (h0 : (i 0 : ℕ) = r) (h1 : (i 1 : ℕ) = b) (h2 : (i 2 : ℕ) = l) (h3 : (i 3 : ℕ) / 16 = h) :
    lseArr x i = lAt x r b h l := by
  obtain rfl : i 0 = r := Fin.ext h0
  obtain rfl : i 1 = b := Fin.ext h1
  obtain rfl : i 2 = l := Fin.ext h2
  unfold lseArr
  congr 1
  exact Fin.ext h3

/-- The word of a lane is the number of its head. -/
theorem lane (i l : Fin 128) : k0_pay2 (ix2 i l) = BitVec.ofNat 32 ((l : ℕ) / 16) := by
  pointwise [k0_pay2]
  revert l
  decide +kernel

/-- The lanes of the first `n` heads hold those heads' numbers, for the 128 queries from `q0` on. -/
def Filled (x : FVec Ideal S16x8x256x3072 .bf16) (r : Fin 16) (b : Fin 8) (q0 n : ℕ) (hq0 : q0 + 128 ≤ 256)
    (X : FVec Ideal S128x128 .f32) : Prop :=
  ∀ (i l : Fin 128), (l : ℕ) / 16 < n → X (ix2 i l) = lAt x r b ⟨(l : ℕ) / 16, by omega⟩ ⟨q0 + i, by omega⟩

/-- One more head. -/
theorem fill (c : Dev nD) (t : Fin cfg0.N) (w : IVec S128x256 1) (q0 : ℕ) (hq0 : q0 + 128 ≤ 256) (n : ℕ) (hn : n < 8)
    (q : FVec Ideal S1x1x128x128 .bf16) (k : FVec Ideal S1x1x256x128 .bf16) (e : BitVec 32) (X : FVec Ideal S128x128 .f32)
    (hw : IsBand q0 0 fun i j => w (ix2 i j))
    (hq : ∀ i d : Fin 128, q (ix4 0 0 i d) = iblk m c 0 t (ix4 0 0 ⟨q0 + i, by omega⟩ ⟨128 * n + d, by omega⟩))
    (hk : ∀ (i : Fin 256) (d : Fin 128), k (ix4 0 0 i d) = iblk m c 1 t (ix4 0 0 i ⟨128 * n + d, by omega⟩))
    (he : e = BitVec.ofNat 32 n)
    (hX : Filled (m ((c : Thread nD τ).loc main_arg0)) (grid0.coords t 1) (grid0.coords t 0) q0 n hq0 X) :
    Filled (m ((c : Thread nD τ).loc main_arg0)) (grid0.coords t 1) (grid0.coords t 0) q0 (n + 1) hq0
      (pick k0_pay2 e (k0_pay14 (F := Ideal) w q k) (k0_pay16 (F := Ideal) w q k) X) := by
  intro i l hl
  refine (pick_apply _ _ _ _ _ _ _).trans ?_
  rw [lane, he]
  by_cases h : (l : ℕ) / 16 = n
  · rw [if_pos (by rw [h]), tops, dens,
      scores_row (m ((c : Thread nD τ).loc main_arg0)) (grid0.coords t 1) (grid0.coords t 0) ⟨n, hn⟩ q0 hq0 w q k hw
      (fun i d => by rw [hq]; blk_point [iblk, V, idx t]) (fun i d => by rw [hk]; blk_point [iblk, V, idx t])]
    subst h
    rfl
  · rw [if_neg (fun h' => h (by have := congrArg BitVec.toNat h'; simp only [BitVec.toNat_ofNat] at this; omega))]
    exact hX i l (by omega)

/-- A block with all heads' lanes, stored. -/
theorem stored (c : Dev nD) (t : Fin cfg0.N) (q0 : ℕ) (hq0 : q0 + 128 ≤ 256) (X : FVec Ideal S128x128 .f32)
    (hX : Filled (m ((c : Thread nD τ).loc main_arg0)) (grid0.coords t 1) (grid0.coords t 0) q0 8 hq0 X)
    (y : S1x1x128x128.Idx) (z : S1x1x256x128.Idx) (hz2 : (z 2 : ℕ) = q0 + y 2) (hz3 : (z 3 : ℕ) = y 3) :
    shapeCast S1x1x128x128 X shapeCasts_S128x128_S1x1x128x128 y
      = lseArr (m ((c : Thread nD τ).loc main_arg0)) (((cfg0.win 4).blk t).view.emb z) := by
  obtain ⟨a, b, i, l, rfl⟩ : ∃ (a b : Fin 1) (i l : Fin 128), y = ix4 a b i l := ⟨y 0, y 1, y 2, y 3, eq_ix4 y⟩
  have e : shapeCast S1x1x128x128 X shapeCasts_S128x128_S1x1x128x128 (ix4 a b i l) = X (ix2 i l) := by pointwise []
  have hz2' : (z 2 : ℕ) = q0 + i := hz2
  have hz3' : (z 3 : ℕ) = l := hz3
  refine e.trans ((hX i l (by omega)).trans (lseArr_at _ _ _ _ _ _ ?_ ?_ ?_ ?_).symm)
  · blk_simp [idx t]
  · blk_simp [idx t]
  · blk_simp [idx t]; dsimp only; omega
  · blk_simp [idx t]; dsimp only; omega

/-- One more head, of what the loads of the blocks read. -/
theorem fill_ld (c : Dev nD) (t : Fin cfg0.N) (w : IVec S128x256 1) (q0 : ℕ) (hq0 : q0 + 128 ≤ 256) (n : ℕ) (hn : n < 8) (inb inb')
    (e : BitVec 32) (X : FVec Ideal S128x128 .f32) (hw : IsBand q0 0 fun i j => w (ix2 i j)) (he : e = BitVec.ofNat 32 n)
    (hX : Filled (m ((c : Thread nD τ).loc main_arg0)) (grid0.coords t 1) (grid0.coords t 0) q0 n hq0 X) :
    Filled (m ((c : Thread nD τ).loc main_arg0)) (grid0.coords t 1) (grid0.coords t 0) q0 (n + 1) hq0
      (pick k0_pay2 e
        (k0_pay14 (F := Ideal) w
          (View.ld (Val := Elt Ideal) (e' := .bf16) (iblk m c 0 t) (Rect.unit ![0, 0, q0, 128 * n] ![1, 1, 128, 128] inb))
          (View.ld (Val := Elt Ideal) (e' := .bf16) (iblk m c 1 t) (Rect.unit ![0, 0, 0, 128 * n] ![1, 1, 256, 128] inb')))
        (k0_pay16 (F := Ideal) w
          (View.ld (Val := Elt Ideal) (e' := .bf16) (iblk m c 0 t) (Rect.unit ![0, 0, q0, 128 * n] ![1, 1, 128, 128] inb))
          (View.ld (Val := Elt Ideal) (e' := .bf16) (iblk m c 1 t) (Rect.unit ![0, 0, 0, 128 * n] ![1, 1, 256, 128] inb'))) X) :=
  fill m c t w q0 hq0 n hn _ _ e X hw (fun i d => ld_tile _ _ _ _ _ _ i d _ _ rfl rfl)
    (fun i d => ld_tile _ _ _ _ _ _ i d _ _ (Nat.zero_add _).symm rfl) he hX

/-- No head's lanes are filled yet. -/
theorem filled_zero (x : FVec Ideal S16x8x256x3072 .bf16) (r : Fin 16) (b : Fin 8) (q0 : ℕ) (hq0 : q0 + 128 ≤ 256)
    (X : FVec Ideal S128x128 .f32) : Filled x r b q0 0 hq0 X := fun _ _ h => absurd h (Nat.not_lt_zero _)

/-- What a point leaves in the logarithms' block: two stores of 128 queries cover it, and in each all heads' lanes are filled. -/
theorem point4 (c : Dev nD) (t : Fin cfg0.N) (y) : (dats m 0 c).after 4 t y
    = lseArr (m ((c : Thread nD τ).loc main_arg0)) (((cfg0.win 4).blk t).view.emb y) := by
  rw [after0_4]; unfold Gen.outsAt0; frame_out
  have hc2 : (grid0.coords t 2).val = 0 := by have := (grid0.coords t 2).isLt; change _ < 1 at this; omega
  rw [hc2]
  dsimp only [k0_pay1, k0_pay120, k0_pay121, k0_pay112, k0_pay104, k0_pay96, k0_pay88, k0_pay80, k0_pay72, k0_pay64,
    k0_pay54, k0_pay48, k0_pay42, k0_pay36, k0_pay30, k0_pay24, k0_pay18, k0_pay12]
  refine canon_halves _ _ _ _ _ y _ ?_ (fun x hx => ?_) (fun x hx => ?_)
  · have h0 : (y 0 : ℕ) < 1 := (y 0).isLt
    have h1 : (y 1 : ℕ) < 1 := (y 1).isLt
    have h2 : (y 2 : ℕ) < 256 := (y 2).isLt
    have h3 : (y 3 : ℕ) < 128 := (y 3).isLt
    by_cases h : (y 2 : ℕ) < 128
    · refine Or.inr (Rect.mem_set_unit.mpr fun a => ?_)
      fin_cases a
      · exact ⟨Nat.zero_le _, h0⟩
      · exact ⟨Nat.zero_le _, h1⟩
      · exact ⟨Nat.zero_le _, h⟩
      · exact ⟨Nat.zero_le _, h3⟩
    · refine Or.inl (Rect.mem_set_unit.mpr fun a => ?_)
      fin_cases a
      · exact ⟨Nat.zero_le _, h0⟩
      · exact ⟨Nat.zero_le _, h1⟩
      · exact ⟨Nat.not_lt.mp h, h2⟩
      · exact ⟨Nat.zero_le _, h3⟩
  · refine stored m c t 128 (by omega) _ ?_ x y ?_ ?_
    · exact fill_ld m c t k0_pay55 128 (by omega) 7 (by omega) _ _ _ _ band1 rfl
        (fill_ld m c t k0_pay55 128 (by omega) 6 (by omega) _ _ _ _ band1 rfl
        (fill_ld m c t k0_pay55 128 (by omega) 5 (by omega) _ _ _ _ band1 rfl
        (fill_ld m c t k0_pay55 128 (by omega) 4 (by omega) _ _ _ _ band1 rfl
        (fill_ld m c t k0_pay55 128 (by omega) 3 (by omega) _ _ _ _ band1 rfl
        (fill_ld m c t k0_pay55 128 (by omega) 2 (by omega) _ _ _ _ band1 rfl
        (fill_ld m c t k0_pay55 128 (by omega) 1 (by omega) _ _ _ _ band1 rfl
        (fill_ld m c t k0_pay55 128 (by omega) 0 (by omega) _ _ _ _ band1 rfl (filled_zero _ _ _ _ _ _))))))))
    · subst hx
      show 128 + 1 * (x 2 : ℕ) = 128 + x 2; omega
    · subst hx
      show 0 + 1 * (x 3 : ℕ) = x 3; omega
  · refine stored m c t 0 (by omega) _ ?_ x y ?_ ?_
    · exact fill_ld m c t (k0_pay5 k0_pay4) 0 (by omega) 7 (by omega) _ _ _ _ band0 rfl
        (fill_ld m c t (k0_pay5 k0_pay4) 0 (by omega) 6 (by omega) _ _ _ _ band0 rfl
        (fill_ld m c t (k0_pay5 k0_pay4) 0 (by omega) 5 (by omega) _ _ _ _ band0 rfl
        (fill_ld m c t (k0_pay5 k0_pay4) 0 (by omega) 4 (by omega) _ _ _ _ band0 rfl
        (fill_ld m c t (k0_pay5 k0_pay4) 0 (by omega) 3 (by omega) _ _ _ _ band0 rfl
        (fill_ld m c t (k0_pay5 k0_pay4) 0 (by omega) 2 (by omega) _ _ _ _ band0 rfl
        (fill_ld m c t (k0_pay5 k0_pay4) 0 (by omega) 1 (by omega) _ _ _ _ band0 rfl
        (fill_ld m c t (k0_pay5 k0_pay4) 0 (by omega) 0 (by omega) _ _ _ _ band0 rfl (filled_zero _ _ _ _ _ _))))))))
    · subst hx
      show 0 + 1 * (x 2 : ℕ) = 0 + x 2; omega
    · subst hx
      show 0 + 1 * (x 3 : ℕ) = x 3; omega

end Cert.Proof.Attn16
end
-- ==== Proof.Attn.Attn16Ref.lean ====
/- Hand-written, untrusted: the reference of attention at dilation 16, read at an index: its masked scores are the rows, and its
   two results are the arrays `outArr` and `lseArr`. -/
module

public import proofs.«01_k».proof.Proof.Attn.Attn16
public import proofs.«01_k».proof.Proof.Gen.AttnRef16Ideal.Read

@[expose] public section

set_option maxRecDepth 16384

noncomputable section

namespace Cert.Proof.Attn16

open Cert.AttnRef16Ideal Cert.AttnRef16Ideal.Read Idealize.ShloMosaic Idealize.ShloMosaic.TcCoe Idealize.SL.Sem
open Cert.Proof.Attn

/-- The queries. -/
theorem ref_q (x : FVec Ideal S16x8x256x3072 .bf16) (r : Fin 16) (b h : Fin 8) (l : Fin 256) (d : Fin 128) :
    val_main_v2 (F := Ideal) x (ix5 r b l h d) = x (ix4 r b l ⟨128 * h + d, by omega⟩) := by
  pointwise [val_main_v2, val_main_v1, val_main_v0]
  blk_ext

/-- The keys. -/
theorem ref_k (x : FVec Ideal S16x8x256x3072 .bf16) (r : Fin 16) (b h : Fin 8) (l : Fin 256) (d : Fin 128) :
    val_main_v4 (F := Ideal) x (ix5 r b l h d) = x (ix4 r b l ⟨1024 + 128 * h + d, by omega⟩) := by
  pointwise [val_main_v4, val_main_v3, val_main_v0]
  blk_ext

/-- The values. -/
theorem ref_v (x : FVec Ideal S16x8x256x3072 .bf16) (r : Fin 16) (b h : Fin 8) (l : Fin 256) (d : Fin 128) :
    val_main_v6 (F := Ideal) x (ix5 r b l h d) = x (ix4 r b l ⟨2048 + 128 * h + d, by omega⟩) := by
  pointwise [val_main_v6, val_main_v5, val_main_v0]
  blk_ext

/-- The mask. -/
theorem ref_mask (r : Fin 16) (b h : Fin 8) (l j : Fin 256) :
    val_main_call0_v1 (F := Ideal) (ix5 r b h l j) = if Near l j then 1#1 else 0#1 := by
  refine Eq.trans ?_ (band_word (l := l) (m := j) (by omega) (by omega))
  pointwise [val_main_call0_v1, val_main_v18, val_main_v17, val_main_c, val_main_v16, val_main_v15, val_main_v14, val_main_v13,
    val_main_v12, val_main_v11, val_main_v10]

/-- The masked scores. -/
theorem ref_row (x : FVec Ideal S16x8x256x3072 .bf16) (r : Fin 16) (b h : Fin 8) (l j : Fin 256) :
    val_main_v19 (F := Ideal) x (ix5 r b h l j) = row x r b h l j := by
  pointwise [val_main_v19, val_main_v9, val_main_v8, val_main_cst, val_main_v7, val_main_call0_v2, val_main_call0_v0,
    val_main_cst_0]
  rw [ref_mask]
  simp only [ref_q, ref_k]
  exact select_band _ _ rfl

/-- The largest scores. -/
theorem ref_top (x : FVec Ideal S16x8x256x3072 .bf16) (r : Fin 16) (b h : Fin 8) (l : Fin 256) :
    val_main_v20 (F := Ideal) x (ix4 r b h l) = top (row x r b h l) := by
  pointwise [val_main_v20, val_main_cst_1]
  simp only [ref_row]
  rfl

/-- The exponentials. -/
theorem ref_exp (x : FVec Ideal S16x8x256x3072 .bf16) (r : Fin 16) (b h : Fin 8) (l j : Fin 256) :
    val_main_v24 (F := Ideal) x (ix5 r b h l j) = Ideal.exp (row x r b h l j - top (row x r b h l)) := by
  pointwise [val_main_v24, val_main_v23, val_main_v22, val_main_v21]
  rw [ref_row, ref_top]

/-- The denominators. -/
theorem ref_den (x : FVec Ideal S16x8x256x3072 .bf16) (r : Fin 16) (b h : Fin 8) (l : Fin 256) :
    val_main_v25 (F := Ideal) x (ix4 r b h l) = den (row x r b h l) := by
  pointwise [val_main_v25, val_main_cst_2]
  simp only [ref_exp]
  rfl

/-- The outputs. -/
theorem ref_out (x : FVec Ideal S16x8x256x3072 .bf16) (r : Fin 16) (b h : Fin 8) (l : Fin 256) (d : Fin 128) :
    val_main_v29 (F := Ideal) x (ix5 r b h l d) = oAt x r b h l d := by
  pointwise [val_main_v29, val_main_v28, val_main_v27, val_main_v26]
  simp only [ref_exp, ref_v, ref_den]
  rfl

/-- The logarithms. -/
theorem ref_lse (x : FVec Ideal S16x8x256x3072 .bf16) (r : Fin 16) (b h : Fin 8) (l : Fin 256) :
    val_main_v31 (F := Ideal) x (ix4 r b h l) = lAt x r b h l := by
  rw [val_main_v31_apply, val_main_v30_apply, ref_top, ref_den]
  rfl

/-- The reference's first result. -/
theorem ref_eq_out (x : FVec Ideal S16x8x256x3072 .bf16) : val_main_v35 (F := Ideal) x = outArr x := by
  funext i
  obtain ⟨r, b, l, c, rfl⟩ : ∃ (r : Fin 16) (b : Fin 8) (l : Fin 256) (c : Fin 1024), i = ix4 r b l c :=
    ⟨i 0, i 1, i 2, i 3, eq_ix4 i⟩
  have e : val_main_v35 (F := Ideal) x (ix4 r b l c)
      = val_main_v29 (F := Ideal) x (ix5 r b ⟨(c : ℕ) / 128, by omega⟩ l ⟨(c : ℕ) % 128, by omega⟩) := by
    pointwise [val_main_v35, val_main_v33, val_main_v32]
    blk_ext
  exact e.trans (ref_out _ _ _ _ _ _)

/-- The reference's second result. -/
theorem ref_eq_lse (x : FVec Ideal S16x8x256x3072 .bf16) : val_main_v37 (F := Ideal) x = lseArr x := by
  funext i
  obtain ⟨r, b, l, c, rfl⟩ : ∃ (r : Fin 16) (b : Fin 8) (l : Fin 256) (c : Fin 128), i = ix4 r b l c :=
    ⟨i 0, i 1, i 2, i 3, eq_ix4 i⟩
  have e : val_main_v37 (F := Ideal) x (ix4 r b l c)
      = val_main_v31 (F := Ideal) x (ix4 r b ⟨(c : ℕ) / 16, by omega⟩ l) := by
    pointwise [val_main_v37, val_main_v36, val_main_v34]
    blk_ext
  exact e.trans (ref_lse _ _ _ _ _)

end Cert.Proof.Attn16

end
-- ==== Proof.Attn.Attn16Claim.lean ====
/- Hand-written, untrusted: the claim of attention at dilation 16. The kernel's result arrays are `outArr` and `lseArr` of its
   argument, and so are the reference's. -/
module

public import proofs.«01_k».proof.Proof.Attn.Attn16Ref

@[expose] public section

set_option maxRecDepth 16384

noncomputable section

namespace Cert.Proof.Attn16

open Cert.Attn16Ideal Cert.Attn16Ideal.Gen Idealize.ShloMosaic Idealize.ShloMosaic.TcCoe Idealize.SL.Sem

variable (m : (ℓ : Loc nD τ sig) → Buf (Elt Ideal) ℓ)

/-- The output array after the run. -/
theorem final3 (c : Dev nD) : (dats m 0 c).arrAt 3 cfg0.N = outArr (m ((c : Thread nD τ).loc main_arg0)) := by
  refine (dats m 0 c).arrAt_eq_of_covers 3 _ (by decide +kernel) fun t _ y => ?_
  exact point3 m c t y

/-- The logarithms' array after the run. -/
theorem final4 (c : Dev nD) : (dats m 0 c).arrAt 4 cfg0.N = lseArr (m ((c : Thread nD τ).loc main_arg0)) := by
  refine (dats m 0 c).arrAt_eq_of_covers 4 _ (by decide +kernel) fun t _ y => ?_
  exact point4 m c t y

/-- The kernel's run, its result arrays as functions of the argument. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v0_0) = outArr (m ((c : Thread nD τ).loc main_arg0))
      ∧ r.2.mem ((c : Thread nD τ).loc main_v0_1) = lseArr (m ((c : Thread nD τ).loc main_arg0))
      ∧ r.2.mem ((c : Thread nD τ).loc main_arg0) = m ((c : Thread nD τ).loc main_arg0) :=
  (θ_run defs _ _).mono (fun r h c => ⟨(h c).1.trans (final3 m c), (h c).2.1.trans (final4 m c), (h c).2.2⟩)
    (Cert.Attn16Ideal.Value.run_blocks m g)

/-- The claim: from arguments that agree, the kernel and the reference end with the same two results. -/
theorem algebraic : algebraic_Attn16Ideal_AttnRef16Ideal (hAttn16Ideal := Cert.Attn16Ideal.Gen.facts)
    (hAttnRef16Ideal := Cert.AttnRef16Ideal.Gen.facts) := by
  intro m g m' g' _ hargs
  refine ⟨fun c => outArr (m ((c : Thread nD τ).loc main_arg0)), fun c => lseArr (m ((c : Thread nD τ).loc main_arg0)),
    run_kernel m g, ?_⟩
  refine (θ_run Cert.AttnRef16Ideal.defs _ _).mono (fun r h c => ?_) (Cert.AttnRef16Ideal.Value.run (F := Ideal) m' g')
  have h0 := hargs c
  refine ⟨(h c).1.trans ?_, (h c).2.1.trans ?_, (h c).2.2⟩
  · rw [Cert.AttnRef16Ideal.Read.val_main_v35_eq, h0]
    exact ref_eq_out _
  · rw [Cert.AttnRef16Ideal.Read.val_main_v37_eq, h0]
    exact ref_eq_lse _

/-- The reference's frame: its argument is unchanged, and it declares no semaphore. -/
theorem frame_ref : quiescent_AttnRef16Ideal (hAttnRef16Ideal := Cert.AttnRef16Ideal.Gen.facts) := fun m g _ =>
  (θ_run Cert.AttnRef16Ideal.defs _ _).mono (fun r h => ⟨fun c => (h c).2.2, sem_eq_zero_of_no_sems (by decide) r.2⟩)
    (Cert.AttnRef16Ideal.Value.run (F := Ideal) m g)

end Cert.Proof.Attn16

end
-- ==== Proof.Qkv.Rope.lean ====
/- Hand-written, untrusted: rotary embedding of one entry of the projection, and its form with permuted columns and a
   rotation by half a head. Columns and positions are natural numbers; `proj c` is the entry of the projection in column
   `c` of the unpermuted weights. -/
module

public import Idealize.ShloMosaic.Init
public import Idealize.ShloMosaic.Lib.Pipeline.ValueKit

@[expose] public section

noncomputable section

namespace Cert.Proof.Qkv

open Idealize.ShloMosaic

/-- The angle of frequency `q` at position `s`: `s * 500000 ^ (-q / 16)`. -/
def angle (s q : ℕ) : EReal :=
  (FloatOps.sitofp (F := Ideal) FTy.f32 (BitVec.ofNat 32 s) : EReal) * Ideal.pow (Ideal.ofBits .f32 0x48F42400#32)
    (Ideal.div (-(FloatOps.sitofp (F := Ideal) FTy.f32 (BitVec.ofNat 32 q) : EReal)) (Ideal.ofBits .f32 0x41800000#32))

/-- The factor of an entry in lane `p` of a permuted head. -/
def cosTab (s p : ℕ) : EReal :=
  if p < 16 then Ideal.cos (angle s p) else if p - 16 < 48 then 1
  else if p - 16 - 48 < 16 then Ideal.cos (angle s (p - 16 - 48)) else 1

/-- The factor of the entry half a head away. -/
def sinTab (s p : ℕ) : EReal :=
  if p < 16 then -Ideal.sin (angle s p) else if p - 16 < 48 then 0
  else if p - 16 - 48 < 16 then Ideal.sin (angle s (p - 16 - 48)) else 0

/-- The dimension that lane `p` of a permuted head holds. -/
def perm (p : ℕ) : ℕ :=
  if p < 16 then p else if p - 16 < 48 then 32 + (p - 16)
  else if p - 16 - 48 < 16 then 16 + (p - 16 - 48) else 80 + (p - 16 - 48 - 16)

/-- The column of the weights that column `n` of the permuted weights holds: q and k are permuted, v is not. -/
def src (n : ℕ) : ℕ :=
  if n / 3072 < 2 then n / 3072 * 3072 + n / 128 % 24 * 128 + perm (n % 128) else n

/-- A permuted column is a column. -/
theorem src_lt {n : ℕ} (h : n < 9216) : src n < 9216 := by
  unfold src perm
  split_ifs <;> omega

/-- The column of the permuted weights for column `n` of the group's q, k and v. -/
def col (g n : ℕ) : ℕ := n / 1024 * 3072 + g * 1024 + n % 1024

/-- The column half a head away in the same head. -/
def roll (n : ℕ) : ℕ := n / 128 * 128 + (n % 128 + 64) % 128

/-- Column `n` of the group's projected and rotated q, k and v at position `s`. In every head of q and k the dims come in
    the order 0..15, 32..79, 16..31, 80..127; the first 32 dims are rotated. -/
def value (proj : ℕ → EReal) (g s n : ℕ) : EReal :=
  if n / 1024 < 2 then
    if n % 128 < 16 then
      proj (n / 1024 * 3072 + g * 1024 + n % 1024) * Ideal.cos (angle s (n % 128))
        - proj (n / 1024 * 3072 + g * 1024 + n % 1024 + 16) * Ideal.sin (angle s (n % 128))
    else if n % 128 < 64 then proj (n / 1024 * 3072 + g * 1024 + n % 1024 + 16)
    else if n % 128 < 80 then
      proj (n / 1024 * 3072 + g * 1024 + n % 1024 - 48) * Ideal.cos (angle s (n % 128 - 64))
        + proj (n / 1024 * 3072 + g * 1024 + n % 1024 - 64) * Ideal.sin (angle s (n % 128 - 64))
    else proj (n / 1024 * 3072 + g * 1024 + n % 1024)
  else proj (6144 + g * 1024 + n % 1024)

/-- Dimension `e` of the head at column `base`, rotated at position `s`. -/
def rot (proj : ℕ → EReal) (s base e : ℕ) : EReal :=
  if e < 32 then
    if e < 16 then proj (base + e) * Ideal.cos (angle s e) - proj (base + (16 + e)) * Ideal.sin (angle s e)
    else proj (base + (16 + (e - 16))) * Ideal.cos (angle s (e - 16)) + proj (base + (e - 16)) * Ideal.sin (angle s (e - 16))
  else proj (base + (32 + (e - 32)))

/-- The first half of the rotated dimensions. -/
theorem rot_lo (proj : ℕ → EReal) (s base e : ℕ) (h : e < 16) : rot proj s base e
    = proj (base + e) * Ideal.cos (angle s e) - proj (base + (16 + e)) * Ideal.sin (angle s e) := by
  unfold rot
  rw [if_pos (show e < 32 by omega), if_pos h]

/-- The second half of them. -/
theorem rot_hi (proj : ℕ → EReal) (s base e : ℕ) (h1 : e < 32) (h2 : ¬e < 16) : rot proj s base e
    = proj (base + (16 + (e - 16))) * Ideal.cos (angle s (e - 16)) + proj (base + (e - 16)) * Ideal.sin (angle s (e - 16)) := by
  unfold rot
  rw [if_pos h1, if_neg h2]

/-- The dimensions that are not rotated. -/
theorem rot_pass (proj : ℕ → EReal) (s base e : ℕ) (h : ¬e < 32) : rot proj s base e = proj (base + (32 + (e - 32))) := by
  unfold rot
  rw [if_neg h]

/-- The rotated first half at equal columns and frequencies. -/
theorem sub_congr (proj : ℕ → EReal) (s : ℕ) {a a' b b' q q' : ℕ} (ha : a = a') (hb : b = b') (hq : q = q') :
    proj a * Ideal.cos (angle s q) - proj b * Ideal.sin (angle s q)
      = proj a' * Ideal.cos (angle s q') - proj b' * Ideal.sin (angle s q') := by
  rw [ha, hb, hq]

/-- The rotated second half at equal columns and frequencies. -/
theorem add_congr (proj : ℕ → EReal) (s : ℕ) {a a' b b' q q' : ℕ} (ha : a = a') (hb : b = b') (hq : q = q') :
    proj a * Ideal.cos (angle s q) + proj b * Ideal.sin (angle s q)
      = proj a' * Ideal.cos (angle s q') + proj b' * Ideal.sin (angle s q') := by
  rw [ha, hb, hq]

/-- A column of q or k is the rotated dimension that its lane holds. -/
theorem value_rot (proj : ℕ → EReal) (g s n : ℕ) (hn : n / 1024 < 2) :
    value proj g s n = rot proj s (n / 1024 * 3072 + g * 1024 + n % 1024 / 128 * 128) (perm (n % 128)) := by
  unfold value rot perm
  rw [if_pos hn]
  split_ifs <;> first
    | omega
    | exact congrArg proj (by omega)
    | exact sub_congr proj s (by omega) (by omega) (by omega)
    | exact add_congr proj s (by omega) (by omega) (by omega)

/-- The reference's form: the parts of the heads one after another, of q, of k, and v. -/
theorem value_parts (proj : ℕ → EReal) (g s n : ℕ) (hn : n < 3072) :
    (if h : n / 1024 < 2 then
      if h : n % 128 < 16 then
        if h : n / 1024 < 1 then rot proj s (g * 1024 + n / 128 % 8 * 128) (n % 128)
        else rot proj s (3072 + g * 1024 + n / 128 % 8 * 128) (n % 128)
      else if h : n % 128 - 16 < 48 then
        if h : n / 1024 < 1 then rot proj s (g * 1024 + n / 128 % 8 * 128) (32 + (n % 128 - 16))
        else rot proj s (3072 + g * 1024 + n / 128 % 8 * 128) (32 + (n % 128 - 16))
      else if h : n % 128 - 16 - 48 < 16 then
        if h : n / 1024 < 1 then rot proj s (g * 1024 + n / 128 % 8 * 128) (16 + (n % 128 - 16 - 48))
        else rot proj s (3072 + g * 1024 + n / 128 % 8 * 128) (16 + (n % 128 - 16 - 48))
      else
        if h : n / 1024 < 1 then rot proj s (g * 1024 + n / 128 % 8 * 128) (80 + (n % 128 - 16 - 48 - 16))
        else rot proj s (3072 + g * 1024 + n / 128 % 8 * 128) (80 + (n % 128 - 16 - 48 - 16))
    else proj (6144 + g * 1024 + n / 128 % 8 * 128 + n % 128)) = value proj g s n := by
  by_cases h : n / 1024 < 2
  · rw [dif_pos h, value_rot proj g s n h]
    unfold perm
    split_ifs <;> first | exact congrArg (fun b => rot proj s b _) (by omega) | (exfalso; omega)
  · rw [dif_neg h]
    unfold value
    rw [if_neg h]
    congr 1
    omega

/-- The kernel's form: one product with the entry, one with the entry half a head away, the factors from tables that
    leave v alone. -/
theorem rope_eq (proj : ℕ → EReal) (g s n : ℕ) (hg : g < 3) (hn : n < 3072) :
    proj (src (col g n)) * (if n / 2048 < 1 then cosTab s (n % 128) else 1)
      + proj (src (col g (roll n))) * (if n / 2048 < 1 then sinTab s (n % 128) else 0) = value proj g s n := by
  by_cases h : n / 2048 < 1
  · rw [if_pos h, if_pos h]
    unfold value cosTab sinTab
    rw [if_pos (show n / 1024 < 2 by omega)]
    by_cases h1 : n % 128 < 16
    · rw [if_pos h1, if_pos h1, if_pos h1, mul_neg, ← sub_eq_add_neg]
      congr 3 <;> (unfold src col; first | unfold roll | skip) <;> unfold perm <;> split_ifs <;> omega
    by_cases h2 : n % 128 < 64
    · rw [if_neg h1, if_neg h1, if_neg h1, if_pos h2, if_pos (show n % 128 - 16 < 48 by omega),
        if_pos (show n % 128 - 16 < 48 by omega), mul_one, mul_zero, add_zero]
      congr 1
      unfold src col perm
      split_ifs <;> omega
    by_cases h3 : n % 128 < 80
    · rw [if_neg h1, if_neg h1, if_neg h1, if_neg h2, if_neg (show ¬n % 128 - 16 < 48 by omega),
        if_neg (show ¬n % 128 - 16 < 48 by omega), if_pos h3, if_pos (show n % 128 - 16 - 48 < 16 by omega),
        if_pos (show n % 128 - 16 - 48 < 16 by omega), show n % 128 - 16 - 48 = n % 128 - 64 by omega]
      congr 3 <;> (unfold src col; first | unfold roll | skip) <;> unfold perm <;> split_ifs <;> omega
    · rw [if_neg h1, if_neg h1, if_neg h1, if_neg h2, if_neg (show ¬n % 128 - 16 < 48 by omega),
        if_neg (show ¬n % 128 - 16 < 48 by omega), if_neg h3, if_neg (show ¬n % 128 - 16 - 48 < 16 by omega),
        if_neg (show ¬n % 128 - 16 - 48 < 16 by omega), mul_one, mul_zero, add_zero]
      congr 1
      unfold src col perm
      split_ifs <;> omega
  · rw [if_neg h, if_neg h, mul_one, mul_zero, add_zero]
    unfold value
    rw [if_neg (show ¬n / 1024 < 2 by omega)]
    congr 1
    unfold src col
    split_ifs <;> omega

/-- An entry of the projection: a row of features against column `c` of the weights. -/
def projAt (h : Fin 2048 → EReal) (w : Fin 2048 → Fin 9216 → EReal) (c : ℕ) : EReal :=
  ∑ k, h k * if hc : c < 9216 then w k ⟨c, hc⟩ else 0

/-- The entry in a column that there is. -/
theorem projAt_of_lt (h : Fin 2048 → EReal) (w : Fin 2048 → Fin 9216 → EReal) {c : ℕ} (hc : c < 9216) :
    projAt h w c = ∑ k, h k * w k ⟨c, hc⟩ := by
  unfold projAt
  simp only [dif_pos hc]

/-- The entry in a column of the permuted weights. -/
theorem projAt_src (h : Fin 2048 → EReal) (w : Fin 2048 → Fin 9216 → EReal) {c : ℕ} (hc : c < 9216) :
    projAt h w (src c) = ∑ k, h k * w k ⟨src c, src_lt hc⟩ :=
  projAt_of_lt h w (src_lt hc)

end Cert.Proof.Qkv

end
-- ==== Proof.Qkv.Body.lean ====
/- Hand-written, untrusted: what the projection's body stores, read at an index: the entries of the product in a head of
   128 lanes, times one table, plus the entries half a head away, times the other. -/
module

public import Idealize.ShloMosaic.Lib.Pipeline.ValueKit
public import proofs.«01_k».proof.Proof.Qkv.Rope
public import proofs.«01_k».proof.Proof.Gen.Qkv4Ideal.Value

@[expose] public section

set_option maxRecDepth 16384

noncomputable section

namespace Cert.Proof.Qkv

open Cert.Qkv4Ideal Cert.Qkv4Ideal.Gen Idealize.ShloMosaic

/-- An entry of head `u` of a stored block. -/
def headAt (h : FVec Ideal S2048x2048 .bf16) (w : FVec Ideal S1x2048x512 .bf16) (c s : FVec Ideal S1x2048x128 .f32)
    (u : Fin 4) (r : Fin 2048) (p : Fin 128) : EReal :=
  (∑ k, h (ix2 r k) * w (ix3 0 k ⟨128 * u.val + p.val, by omega⟩)) * c (ix3 0 r p)
    + (∑ k, h (ix2 r k) * w (ix3 0 k ⟨128 * u.val + (p.val + 128 - 64) % 128, by omega⟩)) * s (ix3 0 r p)

variable (h : FVec Ideal S2048x2048 .bf16) (w : FVec Ideal S1x2048x512 .bf16) (c s : FVec Ideal S1x2048x128 .f32)
  (r : Fin 2048) (p : Fin 128)

/-- The first head. -/
theorem head0 : k0_pay6 (F := Ideal) h w c s (ix3 0 r p) = headAt h w c s 0 r p := by
  pointwise [k0_pay6, k0_pay5, k0_pay4, k0_pay3, headAt]

/-- The second head. -/
theorem head1 : k0_pay7 (F := Ideal) h w c s (ix3 0 r p) = headAt h w c s 1 r p := by
  pointwise [k0_pay7, k0_pay5, k0_pay4, k0_pay3, headAt]

/-- The third head. -/
theorem head2 : k0_pay1 (F := Ideal) (k0_pay8 h w c s) (ix3 0 r p) = headAt h w c s 2 r p := by
  pointwise [k0_pay1, k0_pay8, k0_pay5, k0_pay4, k0_pay3, headAt]

/-- The fourth head. -/
theorem head3 : k0_pay2 (F := Ideal) (k0_pay3 h w) (k0_pay4 c) (k0_pay5 s) (ix3 0 r p) = headAt h w c s 3 r p := by
  pointwise [k0_pay2, k0_pay5, k0_pay4, k0_pay3, headAt]

/-- An entry of a head of column tile `j`, from what its blocks hold: a row `x` of features, the tile's columns of the
    permuted weights, and the tables at position `q` (of v: ones and zeros). -/
theorem headAt_value (u : Fin 4) (x : Fin 2048 → EReal) (W : Fin 2048 → Fin 9216 → EReal) (g q j n : ℕ) (hg : g < 3)
    (hj : j < 6) (hn : n = 512 * j + 128 * u.val + p.val) (hx : ∀ k, h (ix2 r k) = x k)
    (hw : ∀ (k : Fin 2048) (n : Fin 512), w (ix3 0 k n)
      = W k ⟨src ((j / 2 * 6 + 2 * g + j % 2) * 512 + n.val), src_lt (by omega)⟩)
    (hc : c (ix3 0 r p) = if j / 4 < 1 then cosTab q p.val else 1)
    (hs : s (ix3 0 r p) = if j / 4 < 1 then sinTab q p.val else 0) :
    headAt h w c s u r p = value (projAt x W) g q n := by
  have hp : p.val < 128 := p.isLt
  have hu : u.val < 4 := u.isLt
  have hA : (∑ k, h (ix2 r k) * w (ix3 0 k ⟨128 * u.val + p.val, by omega⟩)) = projAt x W (src (col g n)) := by
    rw [projAt_src x W (show col g n < 9216 by unfold col; omega)]
    refine Finset.sum_congr rfl fun k _ => ?_
    rw [hx, hw]
    exact congrArg (fun z => x k * W k z) (Fin.ext (congrArg src (by unfold col; dsimp only; omega)))
  have hB : (∑ k, h (ix2 r k) * w (ix3 0 k ⟨128 * u.val + (p.val + 128 - 64) % 128, by omega⟩))
      = projAt x W (src (col g (roll n))) := by
    rw [projAt_src x W (show col g (roll n) < 9216 by unfold col roll; omega)]
    refine Finset.sum_congr rfl fun k _ => ?_
    rw [hx, hw]
    exact congrArg (fun z => x k * W k z) (Fin.ext (congrArg src (by unfold col roll; dsimp only; omega)))
  rw [← rope_eq _ g q n hg (by omega), show n % 128 = p.val by omega, show n / 2048 = j / 4 by omega, ← hA, ← hB, ← hc,
    ← hs]
  rfl

end Cert.Proof.Qkv

end
-- ==== Proof.Qkv.Qkv1.lean ====
/- Hand-written, untrusted: the projection and rotation of the first (1) dilation's q, k and v: the value of the kernel's
   and of the reference's result. -/
module

public import proofs.«01_k».proof.Proof.Qkv.Body
public import proofs.«01_k».proof.Proof.Gen.Qkv1Ideal.Value
public import proofs.«01_k».proof.Proof.Gen.Qkv1RefIdeal.Run
public import proofs.«01_k».proof.Proof.Gen.Qkv1RefIdeal.Read
public import Idealize.ShloMosaic.Lib.StableHlo.RunRead
public import proofs.«01_k».proof.Defs

@[expose] public section

set_option maxRecDepth 16384

noncomputable section

namespace Cert.Proof.Qkv1

open Cert.Qkv1Ideal Cert.Qkv1Ideal.Gen Idealize.ShloMosaic Idealize.ShloMosaic.TcCoe Idealize.SL.Sem
open Cert.Proof.Qkv

/-- The projection's entries in row `r` of residue class `a`: the row's features are the class's part of the array's row. -/
def proj (h : FVec Ideal S32768x2048 .bf16) (w : FVec Ideal S2x2048x9216 .f32) (a : Fin 1) (r : Fin 32768) : ℕ → EReal :=
  projAt (fun k => h (ix2 r ⟨a.val * 2048 + k.val, by omega⟩)) (fun k n => w (ix3 1 k n))

/-- The rotated q, k and v of the group, class by class: row `r` of class `a` is a position of one of eight sequences. -/
def G (h : FVec Ideal S32768x2048 .bf16) (w : FVec Ideal S2x2048x9216 .f32) : FVec Ideal S1x32768x3072 .bf16 :=
  fun i => value (proj h w (i 0) (i 1)) 0 ((i 1).val % 4096) (i 2).val

variable (m : (ℓ : Loc nD τ sig) → Buf (Elt Ideal) ℓ)

/-- `G` of the launched arguments. -/
abbrev GA (c : Dev nD) : FVec Ideal S1x32768x3072 .bf16 :=
  G (m ((c : Thread nD τ).loc main_arg0)) (m ((c : Thread nD τ).loc main_arg1))

/-- The permuted weights that the host code prepares. -/
theorem V_w (c : Dev nD) (a : Fin 2) (k : Fin 2048) (n : Fin 9216) :
    (V m c main_v10 : FVec Ideal S2x2048x9216 .bf16) (ix3 a k n)
      = (m ((c : Thread nD τ).loc main_arg1) : FVec Ideal S2x2048x9216 .f32) (ix3 a k ⟨src n.val, src_lt n.isLt⟩) := by
  unfold_abbrev_sides
  after_reads_simp
  pointwise []
  after_reads_simp
  pointwise []
  after_reads_simp
  pointwise []
  unfold src perm
  split_ifs <;> blk_ext

/-- The table of factors that the host code prepares. -/
theorem V_cos (c : Dev nD) (a : Fin 2) (r : Fin 4096) (n : Fin 128) :
    (V m c main_v33 : FVec Ideal S2x4096x128 .f32) (ix3 a r n)
      = if a.val < 1 then cosTab r.val n.val else (1 : EReal) := by
  unfold_abbrev_sides
  after_reads_simp
  pointwise []
  after_reads_simp
  pointwise []
  rfl

/-- The table of factors of the entry half a head away. -/
theorem V_sin (c : Dev nD) (a : Fin 2) (r : Fin 4096) (n : Fin 128) :
    (V m c main_v37 : FVec Ideal S2x4096x128 .f32) (ix3 a r n)
      = if a.val < 1 then sinTab r.val n.val else (0 : EReal) := by
  unfold_abbrev_sides
  after_reads_simp
  pointwise []
  after_reads_simp
  pointwise []
  rfl

/-- The block of each window at a grid point: classes outermost, then row tiles, then the six column tiles. -/
theorem idx : ∀ t : Fin cfg0.N, win0_0.index t = ![(grid0.coords t 1).val, (grid0.coords t 0).val]
    ∧ win0_1.index t = ![1, 0, (grid0.coords t 2).val / 2 * 6 + 2 * 0 + (grid0.coords t 2).val % 2]
    ∧ win0_2.index t = ![(grid0.coords t 2).val / 4, (grid0.coords t 1).val % 2, (grid0.coords t 0).val]
    ∧ win0_3.index t = ![(grid0.coords t 2).val / 4, (grid0.coords t 1).val % 2, (grid0.coords t 0).val]
    ∧ win0_4.index t = ![(grid0.coords t 0).val, (grid0.coords t 1).val, (grid0.coords t 2).val] :=
  (by decide +kernel : ∀ t : Fin grid0.N, _)

/-- What a window of the arrays `X` reads: the column tile's columns of the second layer's weights. -/
theorem read_w (c : Dev nD) (X : (b : Ref sig .tc) → Buf (Elt Ideal) ((c : Thread nD τ).loc b)) (t : Fin cfg0.N)
    (k : Fin 2048) (n : Fin 512) (hj : (grid0.coords t 2).val < 6) :
    (((cfg0.win 1).blk t).view.read (Elt Ideal) (X (Pipeline.arrRef spec0 1)) : FVec Ideal S1x2048x512 .bf16) (ix3 0 k n)
      = (X main_v10 : FVec Ideal S2x2048x9216 .bf16) (ix3 1 k
        ⟨((grid0.coords t 2).val / 2 * 6 + 2 * 0 + (grid0.coords t 2).val % 2) * 512 + n.val, by omega⟩) := by
  show (X main_v10 : FVec Ideal S2x2048x9216 .bf16) (((cfg0.win 1).blk t).view.emb (ix3 0 k n)) = _
  refine congrArg (X main_v10 : FVec Ideal S2x2048x9216 .bf16) ?_
  blk_ext [idx t]

/-- What a window of the arrays `X` reads: the class's lanes of the table of factors. -/
theorem read_cos (c : Dev nD) (X : (b : Ref sig .tc) → Buf (Elt Ideal) ((c : Thread nD τ).loc b)) (t : Fin cfg0.N)
    (r : Fin 2048) (p : Fin 128) (hj : (grid0.coords t 2).val < 6) (ha : (grid0.coords t 0).val < 1) :
    (((cfg0.win 2).blk t).view.read (Elt Ideal) (X (Pipeline.arrRef spec0 2)) : FVec Ideal S1x2048x128 .f32) (ix3 0 r p)
      = (X main_v33 : FVec Ideal S2x4096x128 .f32) (ix3 ⟨(grid0.coords t 2).val / 4, by omega⟩
        ⟨(grid0.coords t 1).val % 2 * 2048 + r.val, by omega⟩ p) := by
  show (X main_v33 : FVec Ideal S2x4096x128 .f32) (((cfg0.win 2).blk t).view.emb (ix3 0 r p)) = _
  refine congrArg (X main_v33 : FVec Ideal S2x4096x128 .f32) ?_
  blk_ext [idx t]

/-- What a window of the arrays `X` reads: the class's lanes of the other table. -/
theorem read_sin (c : Dev nD) (X : (b : Ref sig .tc) → Buf (Elt Ideal) ((c : Thread nD τ).loc b)) (t : Fin cfg0.N)
    (r : Fin 2048) (p : Fin 128) (hj : (grid0.coords t 2).val < 6) (ha : (grid0.coords t 0).val < 1) :
    (((cfg0.win 3).blk t).view.read (Elt Ideal) (X (Pipeline.arrRef spec0 3)) : FVec Ideal S1x2048x128 .f32) (ix3 0 r p)
      = (X main_v37 : FVec Ideal S2x4096x128 .f32) (ix3 ⟨(grid0.coords t 2).val / 4, by omega⟩
        ⟨(grid0.coords t 1).val % 2 * 2048 + r.val, by omega⟩ p) := by
  show (X main_v37 : FVec Ideal S2x4096x128 .f32) (((cfg0.win 3).blk t).view.emb (ix3 0 r p)) = _
  refine congrArg (X main_v37 : FVec Ideal S2x4096x128 .f32) ?_
  blk_ext [idx t]

/-- The block of the weights: the column tile's columns of the permuted weights of the second layer. -/
theorem w_at (c : Dev nD) (t : Fin cfg0.N) (k : Fin 2048) (n : Fin 512) (hj : (grid0.coords t 2).val < 6) :
    (iblk m c 1 t : FVec Ideal S1x2048x512 .bf16) (ix3 0 k n)
      = (m ((c : Thread nD τ).loc main_arg1) : FVec Ideal S2x2048x9216 .f32) (ix3 1 k
        ⟨src (((grid0.coords t 2).val / 2 * 6 + 2 * 0 + (grid0.coords t 2).val % 2) * 512 + n.val), src_lt (by omega)⟩) :=
  (read_w c (V m c) t k n hj).trans (V_w m c 1 k _)

/-- The block of the factors: the class's positions, ones for v. -/
theorem cos_at (c : Dev nD) (t : Fin cfg0.N) (r : Fin 2048) (p : Fin 128) (hj : (grid0.coords t 2).val < 6)
    (ha : (grid0.coords t 0).val < 1) : (iblk m c 2 t : FVec Ideal S1x2048x128 .f32) (ix3 0 r p)
      = if (grid0.coords t 2).val / 4 < 1 then cosTab ((grid0.coords t 1).val % 2 * 2048 + r.val) p.val else (1 : EReal) := by
  exact (read_cos c (V m c) t r p hj ha).trans (V_cos m c _ _ _)

/-- The block of the factors of the entry half a head away. -/
theorem sin_at (c : Dev nD) (t : Fin cfg0.N) (r : Fin 2048) (p : Fin 128) (hj : (grid0.coords t 2).val < 6)
    (ha : (grid0.coords t 0).val < 1) : (iblk m c 3 t : FVec Ideal S1x2048x128 .f32) (ix3 0 r p)
      = if (grid0.coords t 2).val / 4 < 1 then sinTab ((grid0.coords t 1).val % 2 * 2048 + r.val) p.val else (0 : EReal) := by
  exact (read_sin c (V m c) t r p hj ha).trans (V_sin m c _ _ _)

/-- An entry of head `u` of a stored block is `G` at the array index the block puts it at. -/
theorem head_at (c : Dev nD) (t : Fin cfg0.N) (u : Fin 4) (r : Fin 2048) (p : Fin 128) (y : S1x2048x512.Idx)
    (h1 : (y 1).val = r.val) (h2 : (y 2).val = 128 * u.val + p.val) :
    headAt (iblk m c 0 t) (iblk m c 1 t) (iblk m c 2 t) (iblk m c 3 t) u r p
      = GA m c (((cfg0.win 4).blk t).view.emb y) := by
  have hj : (grid0.coords t 2).val < 6 := (grid0.coords t 2).isLt
  have ha : (grid0.coords t 0).val < 1 := (grid0.coords t 0).isLt
  have hi : (grid0.coords t 1).val < 16 := (grid0.coords t 1).isLt
  have e0 : (((cfg0.win 4).blk t).view.emb y 0).val = (grid0.coords t 0).val := by blk_simp [idx t]
  have e1 : (((cfg0.win 4).blk t).view.emb y 1).val = (grid0.coords t 1).val * 2048 + r.val := by
    blk_simp [idx t]; omega
  have e2 : (((cfg0.win 4).blk t).view.emb y 2).val = 512 * (grid0.coords t 2).val + 128 * u.val + p.val := by
    blk_simp [idx t]; omega
  show _ = value (projAt _ _) 0 ((((cfg0.win 4).blk t).view.emb y 1).val % 4096)
    (((cfg0.win 4).blk t).view.emb y 2).val
  refine headAt_value _ _ _ _ r p u _ _ 0 _ (grid0.coords t 2).val _ (by omega) hj e2 (fun k => ?_)
    (fun k n => w_at m c t k n hj) ?_ ?_
  · blk_point [iblk, V, idx t]
  · rw [e1, show ((grid0.coords t 1).val * 2048 + r.val) % 4096 = (grid0.coords t 1).val % 2 * 2048 + r.val by omega]
    exact cos_at m c t r p hj ha
  · rw [e1, show ((grid0.coords t 1).val * 2048 + r.val) % 4096 = (grid0.coords t 1).val % 2 * 2048 + r.val by omega]
    exact sin_at m c t r p hj ha

/-- What a point leaves in the output's block: the stores of the four heads. -/
theorem point (c : Dev nD) (t : Fin cfg0.N) (y) : (dats m 0 c).after 4 t y = GA m c (((cfg0.win 4).blk t).view.emb y) := by
  rw [after0_4]; frame_out
  canon_tiles x h
  all_goals obtain ⟨a, r, p, rfl⟩ : ∃ (a : Fin 1) (r : Fin 2048) (p : Fin 128), x = ix3 a r p := ⟨x 0, x 1, x 2, eq_ix3 x⟩
  all_goals obtain rfl : a = 0 := Subsingleton.elim _ _
  · exact (head3 _ _ _ _ r p).trans (head_at m c t 3 r p y h1 h2)
  · exact (head2 _ _ _ _ r p).trans (head_at m c t 2 r p y h1 h2)
  · exact (head1 _ _ _ _ r p).trans (head_at m c t 1 r p y h1 h2)
  · exact (head0 _ _ _ _ r p).trans (head_at m c t 0 r p y h1 (by simpa using h2))

/-- The result array after the run. -/
theorem final (c : Dev nD) : (dats m 0 c).arrAt 4 cfg0.N = GA m c := by
  refine (dats m 0 c).arrAt_eq_of_covers 4 _ (by decide +kernel) fun t _ y => ?_
  exact point m c t y

open Cert.Qkv1RefIdeal.Read in
/-- The rotated q of the group: dimension `e` of head `u` at position `s` of sequence `b`. -/
theorem ref_q (h : FVec Ideal S32768x2048 .bf16) (w : FVec Ideal S2x2048x9216 .f32) (b : Fin 8) (s : Fin 4096) (u : Fin 8)
    (e : Fin 128) : val_main_v40 (F := Ideal) h w (ix4 b s u e)
      = rot (proj h w 0 ⟨b.val * 4096 + s.val, by omega⟩) s.val (u.val * 128) e.val := by
  pointwise [val_main_v0, val_main_v1, val_main_v2, val_main_v3, val_main_v4, val_main_v5, val_main_v6, val_main_v7,
    val_main_v8, val_main_v9, val_main_v10, val_main_v11, val_main_v12, val_main_v13, val_main_v14,
    val_main_v15, val_main_v16, val_main_v17, val_main_v18, val_main_v19, val_main_v20, val_main_v21,
    val_main_v22, val_main_v23, val_main_v24, val_main_v25, val_main_v26, val_main_v27, val_main_v28,
    val_main_v29, val_main_v30, val_main_v31, val_main_v32, val_main_v33, val_main_v34, val_main_v35,
    val_main_v36, val_main_v37, val_main_v38, val_main_v39, val_main_v40, val_main_cst, val_main_cst_0]
  have key : ∀ (n : ℕ) (hn : n < 9216), (∑ x : Fin 2048, h (ix2 ⟨b.val * 4096 + s.val, by omega⟩ x) * w (ix3 1 x ⟨n, hn⟩) : EReal)
      = proj h w 0 ⟨b.val * 4096 + s.val, by omega⟩ n := fun n hn => by
    unfold proj
    rw [projAt_of_lt _ _ hn]
    simp only [Fin.val_zero, Nat.zero_mul, Nat.zero_add]
  by_cases h1 : e.val < 32
  · refine (dif_pos h1).trans ?_
    by_cases h2 : e.val < 16
    · refine (dif_pos h2).trans (Eq.trans ?_ (rot_lo _ _ _ _ h2).symm)
      exact congrArg₂ (· - ·) (congrArg₂ (· * ·) (key _ _) rfl) (congrArg₂ (· * ·) (key _ _) rfl)
    · refine (dif_neg h2).trans (Eq.trans ?_ (rot_hi _ _ _ _ h1 h2).symm)
      exact congrArg₂ (· + ·) (congrArg₂ (· * ·) (key _ _) rfl) (congrArg₂ (· * ·) (key _ _) rfl)
  · refine (dif_neg h1).trans (Eq.trans ?_ (rot_pass _ _ _ _ h1).symm)
    exact key _ _

open Cert.Qkv1RefIdeal.Read in
/-- The rotated k of the group. -/
theorem ref_k (h : FVec Ideal S32768x2048 .bf16) (w : FVec Ideal S2x2048x9216 .f32) (b : Fin 8) (s : Fin 4096) (u : Fin 8)
    (e : Fin 128) : val_main_v74 (F := Ideal) h w (ix4 b s u e)
      = rot (proj h w 0 ⟨b.val * 4096 + s.val, by omega⟩) s.val (3072 + u.val * 128)
        e.val := by
  pointwise [val_main_v0, val_main_v1, val_main_v2, val_main_v3, val_main_v4, val_main_v5, val_main_v6, val_main_v41,
    val_main_v42, val_main_v43, val_main_v44, val_main_v45, val_main_v46, val_main_v47, val_main_v48,
    val_main_v49, val_main_v50, val_main_v51, val_main_v52, val_main_v53, val_main_v54, val_main_v55,
    val_main_v56, val_main_v57, val_main_v58, val_main_v59, val_main_v60, val_main_v61, val_main_v62,
    val_main_v63, val_main_v64, val_main_v65, val_main_v66, val_main_v67, val_main_v68, val_main_v69,
    val_main_v70, val_main_v71, val_main_v72, val_main_v73, val_main_v74, val_main_cst_1, val_main_cst_2]
  have key : ∀ (n : ℕ) (hn : n < 9216), (∑ x : Fin 2048, h (ix2 ⟨b.val * 4096 + s.val, by omega⟩ x) * w (ix3 1 x ⟨n, hn⟩) : EReal)
      = proj h w 0 ⟨b.val * 4096 + s.val, by omega⟩ n := fun n hn => by
    unfold proj
    rw [projAt_of_lt _ _ hn]
    simp only [Fin.val_zero, Nat.zero_mul, Nat.zero_add]
  by_cases h1 : e.val < 32
  · refine (dif_pos h1).trans ?_
    by_cases h2 : e.val < 16
    · refine (dif_pos h2).trans (Eq.trans ?_ (rot_lo _ _ _ _ h2).symm)
      exact congrArg₂ (· - ·) (congrArg₂ (· * ·) (key _ _) rfl) (congrArg₂ (· * ·) (key _ _) rfl)
    · refine (dif_neg h2).trans (Eq.trans ?_ (rot_hi _ _ _ _ h1 h2).symm)
      exact congrArg₂ (· + ·) (congrArg₂ (· * ·) (key _ _) rfl) (congrArg₂ (· * ·) (key _ _) rfl)
  · refine (dif_neg h1).trans (Eq.trans ?_ (rot_pass _ _ _ _ h1).symm)
    exact key _ _

open Cert.Qkv1RefIdeal.Read in
/-- The v of the group. -/
theorem ref_v (h : FVec Ideal S32768x2048 .bf16) (w : FVec Ideal S2x2048x9216 .f32) (b : Fin 8) (s : Fin 4096) (u : Fin 8)
    (e : Fin 128) : val_main_v76 (F := Ideal) h w (ix4 b s u e)
      = proj h w 0 ⟨b.val * 4096 + s.val, by omega⟩ (6144 + u.val * 128 + e.val) := by
  unfold proj
  rw [projAt_of_lt _ _ (by omega)]
  pointwise [val_main_v0, val_main_v1, val_main_v2, val_main_v3, val_main_v4, val_main_v5, val_main_v75, val_main_v76]

open Cert.Qkv1RefIdeal.Read in
/-- The reference's operations, read at an index, give `G`. -/
theorem ref_eq (h : FVec Ideal S32768x2048 .bf16) (w : FVec Ideal S2x2048x9216 .f32) :
    val_main_v89 (F := Ideal) h w = G h w := by
  funext i
  obtain ⟨a, r, n, rfl⟩ : ∃ (a : Fin 1) (r : Fin 32768) (n : Fin 3072), i = ix3 a r n := ⟨i 0, i 1, i 2, eq_ix3 i⟩
  obtain rfl : a = 0 := Subsingleton.elim _ _
  show _ = value (proj h w 0 r) 0 (r.val % 4096) n.val
  rw [← value_parts (proj h w 0 r) 0 _ n.val n.isLt]
  simp only [Nat.zero_mul, Nat.zero_add, Nat.add_zero]
  have hp : proj h w 0 ⟨r.val / 4096 * 4096 + r.val % 4096, by omega⟩ = proj h w 0 r := by
    congr 1 <;> (apply Fin.ext; dsimp only; omega)
  pointwise [val_main_v77, val_main_v78, val_main_v79, val_main_v80, val_main_v81, val_main_v82, val_main_v83,
    val_main_v84, val_main_v85, val_main_v86, val_main_v87, val_main_v88, val_main_v89]
  simp only [ref_q, ref_k, ref_v, hp]

/-- The kernel's run, its result array at `G` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v38) = GA m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.Qkv1Ideal.Value.run_blocks m g)

/-- The claim: from arguments that agree, the kernel and the reference end with the same result, `G` of the arguments. -/
theorem algebraic : algebraic_Qkv1Ideal_Qkv1RefIdeal (hQkv1Ideal := Cert.Qkv1Ideal.Gen.facts)
    (hQkv1RefIdeal := Cert.Qkv1RefIdeal.Gen.facts) := by
  intro m g m' g' _ hargs
  refine ⟨fun c => GA m c, run_kernel m g, ?_⟩
  refine (θ_run Cert.Qkv1RefIdeal.defs _ _).mono (fun r h c => ?_) (Cert.Qkv1RefIdeal.Value.run (F := Ideal) m' g')
  obtain ⟨h0, h1⟩ := hargs c
  refine ⟨(h c).1.trans ?_, (h c).2⟩
  rw [Cert.Qkv1RefIdeal.Read.val_main_v89_eq, h0, h1]
  exact ref_eq _ _

/-- The reference's frame: its arguments are unchanged, and it declares no semaphore. -/
theorem frame_ref : quiescent_Qkv1RefIdeal (hQkv1RefIdeal := Cert.Qkv1RefIdeal.Gen.facts) := fun m g _ =>
  (θ_run Cert.Qkv1RefIdeal.defs _ _).mono (fun r h => ⟨fun c => (h c).2, sem_eq_zero_of_no_sems (by decide) r.2⟩)
    (Cert.Qkv1RefIdeal.Value.run (F := Ideal) m g)

end Cert.Proof.Qkv1

end
-- ==== Proof.Qkv.Qkv4.lean ====
/- Hand-written, untrusted: the projection and rotation of the middle (4) dilation's q, k and v: the value of the kernel's
   and of the reference's result. -/
module

public import proofs.«01_k».proof.Proof.Qkv.Body
public import proofs.«01_k».proof.Proof.Gen.Qkv4Ideal.Value
public import proofs.«01_k».proof.Proof.Gen.Qkv4RefIdeal.Run
public import proofs.«01_k».proof.Proof.Gen.Qkv4RefIdeal.Read
public import Idealize.ShloMosaic.Lib.StableHlo.RunRead
public import proofs.«01_k».proof.Defs

@[expose] public section

set_option maxRecDepth 16384

noncomputable section

namespace Cert.Proof.Qkv4

open Cert.Qkv4Ideal Cert.Qkv4Ideal.Gen Idealize.ShloMosaic Idealize.ShloMosaic.TcCoe Idealize.SL.Sem
open Cert.Proof.Qkv

/-- The projection's entries in row `r` of residue class `a`: the row's features are the class's part of the array's row. -/
def proj (h : FVec Ideal S8192x8192 .bf16) (w : FVec Ideal S2x2048x9216 .f32) (a : Fin 4) (r : Fin 8192) : ℕ → EReal :=
  projAt (fun k => h (ix2 r ⟨a.val * 2048 + k.val, by omega⟩)) (fun k n => w (ix3 1 k n))

/-- The rotated q, k and v of the group, class by class: row `r` of class `a` is a position of one of eight sequences. -/
def G (h : FVec Ideal S8192x8192 .bf16) (w : FVec Ideal S2x2048x9216 .f32) : FVec Ideal S4x8192x3072 .bf16 :=
  fun i => value (proj h w (i 0) (i 1)) 1 ((i 1).val % 1024 * 4 + (i 0).val) (i 2).val

variable (m : (ℓ : Loc nD τ sig) → Buf (Elt Ideal) ℓ)

/-- `G` of the launched arguments. -/
abbrev GA (c : Dev nD) : FVec Ideal S4x8192x3072 .bf16 :=
  G (m ((c : Thread nD τ).loc main_arg0)) (m ((c : Thread nD τ).loc main_arg1))

/-- The permuted weights that the host code prepares. -/
theorem V_w (c : Dev nD) (a : Fin 2) (k : Fin 2048) (n : Fin 9216) :
    (V m c main_v10 : FVec Ideal S2x2048x9216 .bf16) (ix3 a k n)
      = (m ((c : Thread nD τ).loc main_arg1) : FVec Ideal S2x2048x9216 .f32) (ix3 a k ⟨src n.val, src_lt n.isLt⟩) := by
  unfold_abbrev_sides
  after_reads_simp
  pointwise []
  after_reads_simp
  pointwise []
  after_reads_simp
  pointwise []
  unfold src perm
  split_ifs <;> blk_ext

/-- The table of factors that the host code prepares. -/
theorem V_cos (c : Dev nD) (a : Fin 2) (r : Fin 2048) (n : Fin 512) :
    (V m c main_v41 : FVec Ideal S2x2048x512 .f32) (ix3 a r n)
      = if a.val < 1 then cosTab (r.val % 1024 * 4 + n.val / 128) (n.val % 128) else (1 : EReal) := by
  unfold_abbrev_sides
  after_reads_simp
  pointwise []
  after_reads_simp
  pointwise []
  after_reads_simp
  pointwise []
  rfl

/-- The table of factors of the entry half a head away. -/
theorem V_sin (c : Dev nD) (a : Fin 2) (r : Fin 2048) (n : Fin 512) :
    (V m c main_v45 : FVec Ideal S2x2048x512 .f32) (ix3 a r n)
      = if a.val < 1 then sinTab (r.val % 1024 * 4 + n.val / 128) (n.val % 128) else (0 : EReal) := by
  unfold_abbrev_sides
  after_reads_simp
  pointwise []
  after_reads_simp
  pointwise []
  after_reads_simp
  pointwise []
  rfl

/-- The block of each window at a grid point: classes outermost, then row tiles, then the six column tiles. -/
theorem idx : ∀ t : Fin cfg0.N, win0_0.index t = ![(grid0.coords t 1).val, (grid0.coords t 0).val]
    ∧ win0_1.index t = ![1, 0, (grid0.coords t 2).val / 2 * 6 + 2 * 1 + (grid0.coords t 2).val % 2]
    ∧ win0_2.index t = ![(grid0.coords t 2).val / 4, 0, (grid0.coords t 0).val]
    ∧ win0_3.index t = ![(grid0.coords t 2).val / 4, 0, (grid0.coords t 0).val]
    ∧ win0_4.index t = ![(grid0.coords t 0).val, (grid0.coords t 1).val, (grid0.coords t 2).val] :=
  (by decide +kernel : ∀ t : Fin grid0.N, _)

/-- What a window of the arrays `X` reads: the column tile's columns of the second layer's weights. -/
theorem read_w (c : Dev nD) (X : (b : Ref sig .tc) → Buf (Elt Ideal) ((c : Thread nD τ).loc b)) (t : Fin cfg0.N)
    (k : Fin 2048) (n : Fin 512) (hj : (grid0.coords t 2).val < 6) :
    (((cfg0.win 1).blk t).view.read (Elt Ideal) (X (Pipeline.arrRef spec0 1)) : FVec Ideal S1x2048x512 .bf16) (ix3 0 k n)
      = (X main_v10 : FVec Ideal S2x2048x9216 .bf16) (ix3 1 k
        ⟨((grid0.coords t 2).val / 2 * 6 + 2 * 1 + (grid0.coords t 2).val % 2) * 512 + n.val, by omega⟩) := by
  show (X main_v10 : FVec Ideal S2x2048x9216 .bf16) (((cfg0.win 1).blk t).view.emb (ix3 0 k n)) = _
  refine congrArg (X main_v10 : FVec Ideal S2x2048x9216 .bf16) ?_
  blk_ext [idx t]

/-- What a window of the arrays `X` reads: the class's lanes of the table of factors. -/
theorem read_cos (c : Dev nD) (X : (b : Ref sig .tc) → Buf (Elt Ideal) ((c : Thread nD τ).loc b)) (t : Fin cfg0.N)
    (r : Fin 2048) (p : Fin 128) (hj : (grid0.coords t 2).val < 6) (ha : (grid0.coords t 0).val < 4) :
    (((cfg0.win 2).blk t).view.read (Elt Ideal) (X (Pipeline.arrRef spec0 2)) : FVec Ideal S1x2048x128 .f32) (ix3 0 r p)
      = (X main_v41 : FVec Ideal S2x2048x512 .f32) (ix3 ⟨(grid0.coords t 2).val / 4, by omega⟩ r
        ⟨(grid0.coords t 0).val * 128 + p.val, by omega⟩) := by
  show (X main_v41 : FVec Ideal S2x2048x512 .f32) (((cfg0.win 2).blk t).view.emb (ix3 0 r p)) = _
  refine congrArg (X main_v41 : FVec Ideal S2x2048x512 .f32) ?_
  blk_ext [idx t]

/-- What a window of the arrays `X` reads: the class's lanes of the other table. -/
theorem read_sin (c : Dev nD) (X : (b : Ref sig .tc) → Buf (Elt Ideal) ((c : Thread nD τ).loc b)) (t : Fin cfg0.N)
    (r : Fin 2048) (p : Fin 128) (hj : (grid0.coords t 2).val < 6) (ha : (grid0.coords t 0).val < 4) :
    (((cfg0.win 3).blk t).view.read (Elt Ideal) (X (Pipeline.arrRef spec0 3)) : FVec Ideal S1x2048x128 .f32) (ix3 0 r p)
      = (X main_v45 : FVec Ideal S2x2048x512 .f32) (ix3 ⟨(grid0.coords t 2).val / 4, by omega⟩ r
        ⟨(grid0.coords t 0).val * 128 + p.val, by omega⟩) := by
  show (X main_v45 : FVec Ideal S2x2048x512 .f32) (((cfg0.win 3).blk t).view.emb (ix3 0 r p)) = _
  refine congrArg (X main_v45 : FVec Ideal S2x2048x512 .f32) ?_
  blk_ext [idx t]

/-- The block of the weights: the column tile's columns of the permuted weights of the second layer. -/
theorem w_at (c : Dev nD) (t : Fin cfg0.N) (k : Fin 2048) (n : Fin 512) (hj : (grid0.coords t 2).val < 6) :
    (iblk m c 1 t : FVec Ideal S1x2048x512 .bf16) (ix3 0 k n)
      = (m ((c : Thread nD τ).loc main_arg1) : FVec Ideal S2x2048x9216 .f32) (ix3 1 k
        ⟨src (((grid0.coords t 2).val / 2 * 6 + 2 * 1 + (grid0.coords t 2).val % 2) * 512 + n.val), src_lt (by omega)⟩) :=
  (read_w c (V m c) t k n hj).trans (V_w m c 1 k _)

/-- The block of the factors: the class's positions, ones for v. -/
theorem cos_at (c : Dev nD) (t : Fin cfg0.N) (r : Fin 2048) (p : Fin 128) (hj : (grid0.coords t 2).val < 6)
    (ha : (grid0.coords t 0).val < 4) : (iblk m c 2 t : FVec Ideal S1x2048x128 .f32) (ix3 0 r p)
      = if (grid0.coords t 2).val / 4 < 1 then cosTab (r.val % 1024 * 4 + (grid0.coords t 0).val) p.val else (1 : EReal) := by
  refine (read_cos c (V m c) t r p hj ha).trans ((V_cos m c _ r _).trans ?_)
  dsimp only
  rw [show ((grid0.coords t 0).val * 128 + p.val) / 128 = (grid0.coords t 0).val by omega,
    show ((grid0.coords t 0).val * 128 + p.val) % 128 = p.val by omega]

/-- The block of the factors of the entry half a head away. -/
theorem sin_at (c : Dev nD) (t : Fin cfg0.N) (r : Fin 2048) (p : Fin 128) (hj : (grid0.coords t 2).val < 6)
    (ha : (grid0.coords t 0).val < 4) : (iblk m c 3 t : FVec Ideal S1x2048x128 .f32) (ix3 0 r p)
      = if (grid0.coords t 2).val / 4 < 1 then sinTab (r.val % 1024 * 4 + (grid0.coords t 0).val) p.val else (0 : EReal) := by
  refine (read_sin c (V m c) t r p hj ha).trans ((V_sin m c _ r _).trans ?_)
  dsimp only
  rw [show ((grid0.coords t 0).val * 128 + p.val) / 128 = (grid0.coords t 0).val by omega,
    show ((grid0.coords t 0).val * 128 + p.val) % 128 = p.val by omega]

/-- An entry of head `u` of a stored block is `G` at the array index the block puts it at. -/
theorem head_at (c : Dev nD) (t : Fin cfg0.N) (u : Fin 4) (r : Fin 2048) (p : Fin 128) (y : S1x2048x512.Idx)
    (h1 : (y 1).val = r.val) (h2 : (y 2).val = 128 * u.val + p.val) :
    headAt (iblk m c 0 t) (iblk m c 1 t) (iblk m c 2 t) (iblk m c 3 t) u r p
      = GA m c (((cfg0.win 4).blk t).view.emb y) := by
  have hj : (grid0.coords t 2).val < 6 := (grid0.coords t 2).isLt
  have ha : (grid0.coords t 0).val < 4 := (grid0.coords t 0).isLt
  have hi : (grid0.coords t 1).val < 4 := (grid0.coords t 1).isLt
  have e0 : (((cfg0.win 4).blk t).view.emb y 0).val = (grid0.coords t 0).val := by blk_simp [idx t]
  have e1 : (((cfg0.win 4).blk t).view.emb y 1).val = (grid0.coords t 1).val * 2048 + r.val := by
    blk_simp [idx t]; omega
  have e2 : (((cfg0.win 4).blk t).view.emb y 2).val = 512 * (grid0.coords t 2).val + 128 * u.val + p.val := by
    blk_simp [idx t]; omega
  show _ = value (projAt _ _) 1 ((((cfg0.win 4).blk t).view.emb y 1).val % 1024 * 4 + (((cfg0.win 4).blk t).view.emb y 0).val)
    (((cfg0.win 4).blk t).view.emb y 2).val
  refine headAt_value _ _ _ _ r p u _ _ 1 _ (grid0.coords t 2).val _ (by omega) hj e2 (fun k => ?_)
    (fun k n => w_at m c t k n hj) ?_ ?_
  · blk_point [iblk, V, idx t]
  · rw [e0, e1, show ((grid0.coords t 1).val * 2048 + r.val) % 1024 = r.val % 1024 by omega]
    exact cos_at m c t r p hj ha
  · rw [e0, e1, show ((grid0.coords t 1).val * 2048 + r.val) % 1024 = r.val % 1024 by omega]
    exact sin_at m c t r p hj ha

/-- What a point leaves in the output's block: the stores of the four heads. -/
theorem point (c : Dev nD) (t : Fin cfg0.N) (y) : (dats m 0 c).after 4 t y = GA m c (((cfg0.win 4).blk t).view.emb y) := by
  rw [after0_4]; frame_out
  canon_tiles x h
  all_goals obtain ⟨a, r, p, rfl⟩ : ∃ (a : Fin 1) (r : Fin 2048) (p : Fin 128), x = ix3 a r p := ⟨x 0, x 1, x 2, eq_ix3 x⟩
  all_goals obtain rfl : a = 0 := Subsingleton.elim _ _
  · exact (head3 _ _ _ _ r p).trans (head_at m c t 3 r p y h1 h2)
  · exact (head2 _ _ _ _ r p).trans (head_at m c t 2 r p y h1 h2)
  · exact (head1 _ _ _ _ r p).trans (head_at m c t 1 r p y h1 h2)
  · exact (head0 _ _ _ _ r p).trans (head_at m c t 0 r p y h1 (by simpa using h2))

/-- The result array after the run. -/
theorem final (c : Dev nD) : (dats m 0 c).arrAt 4 cfg0.N = GA m c := by
  refine (dats m 0 c).arrAt_eq_of_covers 4 _ (by decide +kernel) fun t _ y => ?_
  exact point m c t y

open Cert.Qkv4RefIdeal.Read in
/-- The rotated q of the group: dimension `e` of head `u` at position `s` of sequence `b`. -/
theorem ref_q (h : FVec Ideal S8192x8192 .bf16) (w : FVec Ideal S2x2048x9216 .f32) (b : Fin 8) (s : Fin 4096) (u : Fin 8)
    (e : Fin 128) : val_main_v40 (F := Ideal) h w (ix4 b s u e)
      = rot (proj h w ⟨s.val % 4, by omega⟩ ⟨b.val * 1024 + s.val / 4, by omega⟩) s.val (1024 + u.val * 128) e.val := by
  pointwise [val_main_v0, val_main_v1, val_main_v2, val_main_v3, val_main_v4, val_main_v5, val_main_v6, val_main_v7,
    val_main_v8, val_main_v9, val_main_v10, val_main_v11, val_main_v12, val_main_v13, val_main_v14,
    val_main_v15, val_main_v16, val_main_v17, val_main_v18, val_main_v19, val_main_v20, val_main_v21,
    val_main_v22, val_main_v23, val_main_v24, val_main_v25, val_main_v26, val_main_v27, val_main_v28,
    val_main_v29, val_main_v30, val_main_v31, val_main_v32, val_main_v33, val_main_v34, val_main_v35,
    val_main_v36, val_main_v37, val_main_v38, val_main_v39, val_main_v40, val_main_cst, val_main_cst_0]
  have key : ∀ (n : ℕ) (hn : n < 9216), (∑ x : Fin 2048, h (ix2 ⟨b.val * 1024 + s.val / 4, by omega⟩
      ⟨s.val % 4 * 2048 + x.val, by omega⟩) * w (ix3 1 x ⟨n, hn⟩) : EReal)
      = proj h w ⟨s.val % 4, by omega⟩ ⟨b.val * 1024 + s.val / 4, by omega⟩ n := fun n hn => by
    unfold proj
    rw [projAt_of_lt _ _ hn]
  by_cases h1 : e.val < 32
  · refine (dif_pos h1).trans ?_
    by_cases h2 : e.val < 16
    · refine (dif_pos h2).trans (Eq.trans ?_ (rot_lo _ _ _ _ h2).symm)
      exact congrArg₂ (· - ·) (congrArg₂ (· * ·) (key _ _) rfl) (congrArg₂ (· * ·) (key _ _) rfl)
    · refine (dif_neg h2).trans (Eq.trans ?_ (rot_hi _ _ _ _ h1 h2).symm)
      exact congrArg₂ (· + ·) (congrArg₂ (· * ·) (key _ _) rfl) (congrArg₂ (· * ·) (key _ _) rfl)
  · refine (dif_neg h1).trans (Eq.trans ?_ (rot_pass _ _ _ _ h1).symm)
    exact key _ _

open Cert.Qkv4RefIdeal.Read in
/-- The rotated k of the group. -/
theorem ref_k (h : FVec Ideal S8192x8192 .bf16) (w : FVec Ideal S2x2048x9216 .f32) (b : Fin 8) (s : Fin 4096) (u : Fin 8)
    (e : Fin 128) : val_main_v74 (F := Ideal) h w (ix4 b s u e)
      = rot (proj h w ⟨s.val % 4, by omega⟩ ⟨b.val * 1024 + s.val / 4, by omega⟩) s.val (3072 + 1024 + u.val * 128)
        e.val := by
  pointwise [val_main_v0, val_main_v1, val_main_v2, val_main_v3, val_main_v4, val_main_v5, val_main_v6, val_main_v41,
    val_main_v42, val_main_v43, val_main_v44, val_main_v45, val_main_v46, val_main_v47, val_main_v48,
    val_main_v49, val_main_v50, val_main_v51, val_main_v52, val_main_v53, val_main_v54, val_main_v55,
    val_main_v56, val_main_v57, val_main_v58, val_main_v59, val_main_v60, val_main_v61, val_main_v62,
    val_main_v63, val_main_v64, val_main_v65, val_main_v66, val_main_v67, val_main_v68, val_main_v69,
    val_main_v70, val_main_v71, val_main_v72, val_main_v73, val_main_v74, val_main_cst_1, val_main_cst_2]
  have key : ∀ (n : ℕ) (hn : n < 9216), (∑ x : Fin 2048, h (ix2 ⟨b.val * 1024 + s.val / 4, by omega⟩
      ⟨s.val % 4 * 2048 + x.val, by omega⟩) * w (ix3 1 x ⟨n, hn⟩) : EReal)
      = proj h w ⟨s.val % 4, by omega⟩ ⟨b.val * 1024 + s.val / 4, by omega⟩ n := fun n hn => by
    unfold proj
    rw [projAt_of_lt _ _ hn]
  by_cases h1 : e.val < 32
  · refine (dif_pos h1).trans ?_
    by_cases h2 : e.val < 16
    · refine (dif_pos h2).trans (Eq.trans ?_ (rot_lo _ _ _ _ h2).symm)
      exact congrArg₂ (· - ·) (congrArg₂ (· * ·) (key _ _) rfl) (congrArg₂ (· * ·) (key _ _) rfl)
    · refine (dif_neg h2).trans (Eq.trans ?_ (rot_hi _ _ _ _ h1 h2).symm)
      exact congrArg₂ (· + ·) (congrArg₂ (· * ·) (key _ _) rfl) (congrArg₂ (· * ·) (key _ _) rfl)
  · refine (dif_neg h1).trans (Eq.trans ?_ (rot_pass _ _ _ _ h1).symm)
    exact key _ _

open Cert.Qkv4RefIdeal.Read in
/-- The v of the group. -/
theorem ref_v (h : FVec Ideal S8192x8192 .bf16) (w : FVec Ideal S2x2048x9216 .f32) (b : Fin 8) (s : Fin 4096) (u : Fin 8)
    (e : Fin 128) : val_main_v76 (F := Ideal) h w (ix4 b s u e)
      = proj h w ⟨s.val % 4, by omega⟩ ⟨b.val * 1024 + s.val / 4, by omega⟩ (6144 + 1024 + u.val * 128 + e.val) := by
  unfold proj
  rw [projAt_of_lt _ _ (by omega)]
  pointwise [val_main_v0, val_main_v1, val_main_v2, val_main_v3, val_main_v4, val_main_v5, val_main_v75, val_main_v76]

open Cert.Qkv4RefIdeal.Read in
/-- The reference's operations, read at an index, give `G`. -/
theorem ref_eq (h : FVec Ideal S8192x8192 .bf16) (w : FVec Ideal S2x2048x9216 .f32) :
    val_main_v89 (F := Ideal) h w = G h w := by
  funext i
  obtain ⟨a, r, n, rfl⟩ : ∃ (a : Fin 4) (r : Fin 8192) (n : Fin 3072), i = ix3 a r n := ⟨i 0, i 1, i 2, eq_ix3 i⟩
  show _ = value (proj h w a r) 1 (r.val % 1024 * 4 + a.val) n.val
  rw [← value_parts (proj h w a r) 1 _ n.val n.isLt]
  simp only [Nat.one_mul]
  have hp : proj h w ⟨(r.val % 1024 * 4 + a.val) % 4, by omega⟩
      ⟨r.val / 1024 * 1024 + (r.val % 1024 * 4 + a.val) / 4, by omega⟩ = proj h w a r := by
    congr 1 <;> (apply Fin.ext; dsimp only; omega)
  pointwise [val_main_v77, val_main_v78, val_main_v79, val_main_v80, val_main_v81, val_main_v82, val_main_v83,
    val_main_v84, val_main_v85, val_main_v86, val_main_v87, val_main_v88, val_main_v89]
  simp only [ref_q, ref_k, ref_v, hp]

/-- The kernel's run, its result array at `G` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v46) = GA m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.Qkv4Ideal.Value.run_blocks m g)

/-- The claim: from arguments that agree, the kernel and the reference end with the same result, `G` of the arguments. -/
theorem algebraic : algebraic_Qkv4Ideal_Qkv4RefIdeal (hQkv4Ideal := Cert.Qkv4Ideal.Gen.facts)
    (hQkv4RefIdeal := Cert.Qkv4RefIdeal.Gen.facts) := by
  intro m g m' g' _ hargs
  refine ⟨fun c => GA m c, run_kernel m g, ?_⟩
  refine (θ_run Cert.Qkv4RefIdeal.defs _ _).mono (fun r h c => ?_) (Cert.Qkv4RefIdeal.Value.run (F := Ideal) m' g')
  obtain ⟨h0, h1⟩ := hargs c
  refine ⟨(h c).1.trans ?_, (h c).2⟩
  rw [Cert.Qkv4RefIdeal.Read.val_main_v89_eq, h0, h1]
  exact ref_eq _ _

/-- The reference's frame: its arguments are unchanged, and it declares no semaphore. -/
theorem frame_ref : quiescent_Qkv4RefIdeal (hQkv4RefIdeal := Cert.Qkv4RefIdeal.Gen.facts) := fun m g _ =>
  (θ_run Cert.Qkv4RefIdeal.defs _ _).mono (fun r h => ⟨fun c => (h c).2, sem_eq_zero_of_no_sems (by decide) r.2⟩)
    (Cert.Qkv4RefIdeal.Value.run (F := Ideal) m g)

end Cert.Proof.Qkv4

end
-- ==== Proof.Qkv.Qkv16.lean ====
/- Hand-written, untrusted: the projection and rotation of the widest (16) dilation's q, k and v: the value of the kernel's
   and of the reference's result. -/
module

public import proofs.«01_k».proof.Proof.Qkv.Body
public import proofs.«01_k».proof.Proof.Gen.Qkv16Ideal.Value
public import proofs.«01_k».proof.Proof.Gen.Qkv16RefIdeal.Run
public import proofs.«01_k».proof.Proof.Gen.Qkv16RefIdeal.Read
public import Idealize.ShloMosaic.Lib.StableHlo.RunRead
public import proofs.«01_k».proof.Defs

@[expose] public section

set_option maxRecDepth 16384

noncomputable section

namespace Cert.Proof.Qkv16

open Cert.Qkv16Ideal Cert.Qkv16Ideal.Gen Idealize.ShloMosaic Idealize.ShloMosaic.TcCoe Idealize.SL.Sem
open Cert.Proof.Qkv

/-- The projection's entries in row `r` of residue class `a`: the row's features are the class's part of the array's row. -/
def proj (h : FVec Ideal S2048x32768 .bf16) (w : FVec Ideal S2x2048x9216 .f32) (a : Fin 16) (r : Fin 2048) : ℕ → EReal :=
  projAt (fun k => h (ix2 r ⟨a.val * 2048 + k.val, by omega⟩)) (fun k n => w (ix3 1 k n))

/-- The rotated q, k and v of the group, class by class: row `r` of class `a` is a position of one of eight sequences. -/
def G (h : FVec Ideal S2048x32768 .bf16) (w : FVec Ideal S2x2048x9216 .f32) : FVec Ideal S16x2048x3072 .bf16 :=
  fun i => value (proj h w (i 0) (i 1)) 2 ((i 1).val % 256 * 16 + (i 0).val) (i 2).val

variable (m : (ℓ : Loc nD τ sig) → Buf (Elt Ideal) ℓ)

/-- `G` of the launched arguments. -/
abbrev GA (c : Dev nD) : FVec Ideal S16x2048x3072 .bf16 :=
  G (m ((c : Thread nD τ).loc main_arg0)) (m ((c : Thread nD τ).loc main_arg1))

/-- The permuted weights that the host code prepares. -/
theorem V_w (c : Dev nD) (a : Fin 2) (k : Fin 2048) (n : Fin 9216) :
    (V m c main_v10 : FVec Ideal S2x2048x9216 .bf16) (ix3 a k n)
      = (m ((c : Thread nD τ).loc main_arg1) : FVec Ideal S2x2048x9216 .f32) (ix3 a k ⟨src n.val, src_lt n.isLt⟩) := by
  unfold_abbrev_sides
  after_reads_simp
  pointwise []
  after_reads_simp
  pointwise []
  after_reads_simp
  pointwise []
  unfold src perm
  split_ifs <;> blk_ext

/-- The table of factors that the host code prepares. -/
theorem V_cos (c : Dev nD) (a : Fin 2) (r : Fin 2048) (n : Fin 2048) :
    (V m c main_v41 : FVec Ideal S2x2048x2048 .f32) (ix3 a r n)
      = if a.val < 1 then cosTab (r.val % 256 * 16 + n.val / 128) (n.val % 128) else (1 : EReal) := by
  unfold_abbrev_sides
  after_reads_simp
  pointwise []
  after_reads_simp
  pointwise []
  after_reads_simp
  pointwise []
  rfl

/-- The table of factors of the entry half a head away. -/
theorem V_sin (c : Dev nD) (a : Fin 2) (r : Fin 2048) (n : Fin 2048) :
    (V m c main_v45 : FVec Ideal S2x2048x2048 .f32) (ix3 a r n)
      = if a.val < 1 then sinTab (r.val % 256 * 16 + n.val / 128) (n.val % 128) else (0 : EReal) := by
  unfold_abbrev_sides
  after_reads_simp
  pointwise []
  after_reads_simp
  pointwise []
  after_reads_simp
  pointwise []
  rfl

/-- The block of each window at a grid point: classes outermost, then row tiles, then the six column tiles. -/
theorem idx : ∀ t : Fin cfg0.N, win0_0.index t = ![(grid0.coords t 1).val, (grid0.coords t 0).val]
    ∧ win0_1.index t = ![1, 0, (grid0.coords t 2).val / 2 * 6 + 2 * 2 + (grid0.coords t 2).val % 2]
    ∧ win0_2.index t = ![(grid0.coords t 2).val / 4, 0, (grid0.coords t 0).val]
    ∧ win0_3.index t = ![(grid0.coords t 2).val / 4, 0, (grid0.coords t 0).val]
    ∧ win0_4.index t = ![(grid0.coords t 0).val, (grid0.coords t 1).val, (grid0.coords t 2).val] :=
  (by decide +kernel : ∀ t : Fin grid0.N, _)

/-- What a window of the arrays `X` reads: the column tile's columns of the second layer's weights. -/
theorem read_w (c : Dev nD) (X : (b : Ref sig .tc) → Buf (Elt Ideal) ((c : Thread nD τ).loc b)) (t : Fin cfg0.N)
    (k : Fin 2048) (n : Fin 512) (hj : (grid0.coords t 2).val < 6) :
    (((cfg0.win 1).blk t).view.read (Elt Ideal) (X (Pipeline.arrRef spec0 1)) : FVec Ideal S1x2048x512 .bf16) (ix3 0 k n)
      = (X main_v10 : FVec Ideal S2x2048x9216 .bf16) (ix3 1 k
        ⟨((grid0.coords t 2).val / 2 * 6 + 2 * 2 + (grid0.coords t 2).val % 2) * 512 + n.val, by omega⟩) := by
  show (X main_v10 : FVec Ideal S2x2048x9216 .bf16) (((cfg0.win 1).blk t).view.emb (ix3 0 k n)) = _
  refine congrArg (X main_v10 : FVec Ideal S2x2048x9216 .bf16) ?_
  blk_ext [idx t]

/-- What a window of the arrays `X` reads: the class's lanes of the table of factors. -/
theorem read_cos (c : Dev nD) (X : (b : Ref sig .tc) → Buf (Elt Ideal) ((c : Thread nD τ).loc b)) (t : Fin cfg0.N)
    (r : Fin 2048) (p : Fin 128) (hj : (grid0.coords t 2).val < 6) (ha : (grid0.coords t 0).val < 16) :
    (((cfg0.win 2).blk t).view.read (Elt Ideal) (X (Pipeline.arrRef spec0 2)) : FVec Ideal S1x2048x128 .f32) (ix3 0 r p)
      = (X main_v41 : FVec Ideal S2x2048x2048 .f32) (ix3 ⟨(grid0.coords t 2).val / 4, by omega⟩ r
        ⟨(grid0.coords t 0).val * 128 + p.val, by omega⟩) := by
  show (X main_v41 : FVec Ideal S2x2048x2048 .f32) (((cfg0.win 2).blk t).view.emb (ix3 0 r p)) = _
  refine congrArg (X main_v41 : FVec Ideal S2x2048x2048 .f32) ?_
  blk_ext [idx t]

/-- What a window of the arrays `X` reads: the class's lanes of the other table. -/
theorem read_sin (c : Dev nD) (X : (b : Ref sig .tc) → Buf (Elt Ideal) ((c : Thread nD τ).loc b)) (t : Fin cfg0.N)
    (r : Fin 2048) (p : Fin 128) (hj : (grid0.coords t 2).val < 6) (ha : (grid0.coords t 0).val < 16) :
    (((cfg0.win 3).blk t).view.read (Elt Ideal) (X (Pipeline.arrRef spec0 3)) : FVec Ideal S1x2048x128 .f32) (ix3 0 r p)
      = (X main_v45 : FVec Ideal S2x2048x2048 .f32) (ix3 ⟨(grid0.coords t 2).val / 4, by omega⟩ r
        ⟨(grid0.coords t 0).val * 128 + p.val, by omega⟩) := by
  show (X main_v45 : FVec Ideal S2x2048x2048 .f32) (((cfg0.win 3).blk t).view.emb (ix3 0 r p)) = _
  refine congrArg (X main_v45 : FVec Ideal S2x2048x2048 .f32) ?_
  blk_ext [idx t]

/-- The block of the weights: the column tile's columns of the permuted weights of the second layer. -/
theorem w_at (c : Dev nD) (t : Fin cfg0.N) (k : Fin 2048) (n : Fin 512) (hj : (grid0.coords t 2).val < 6) :
    (iblk m c 1 t : FVec Ideal S1x2048x512 .bf16) (ix3 0 k n)
      = (m ((c : Thread nD τ).loc main_arg1) : FVec Ideal S2x2048x9216 .f32) (ix3 1 k
        ⟨src (((grid0.coords t 2).val / 2 * 6 + 2 * 2 + (grid0.coords t 2).val % 2) * 512 + n.val), src_lt (by omega)⟩) :=
  (read_w c (V m c) t k n hj).trans (V_w m c 1 k _)

/-- The block of the factors: the class's positions, ones for v. -/
theorem cos_at (c : Dev nD) (t : Fin cfg0.N) (r : Fin 2048) (p : Fin 128) (hj : (grid0.coords t 2).val < 6)
    (ha : (grid0.coords t 0).val < 16) : (iblk m c 2 t : FVec Ideal S1x2048x128 .f32) (ix3 0 r p)
      = if (grid0.coords t 2).val / 4 < 1 then cosTab (r.val % 256 * 16 + (grid0.coords t 0).val) p.val else (1 : EReal) := by
  refine (read_cos c (V m c) t r p hj ha).trans ((V_cos m c _ r _).trans ?_)
  dsimp only
  rw [show ((grid0.coords t 0).val * 128 + p.val) / 128 = (grid0.coords t 0).val by omega,
    show ((grid0.coords t 0).val * 128 + p.val) % 128 = p.val by omega]

/-- The block of the factors of the entry half a head away. -/
theorem sin_at (c : Dev nD) (t : Fin cfg0.N) (r : Fin 2048) (p : Fin 128) (hj : (grid0.coords t 2).val < 6)
    (ha : (grid0.coords t 0).val < 16) : (iblk m c 3 t : FVec Ideal S1x2048x128 .f32) (ix3 0 r p)
      = if (grid0.coords t 2).val / 4 < 1 then sinTab (r.val % 256 * 16 + (grid0.coords t 0).val) p.val else (0 : EReal) := by
  refine (read_sin c (V m c) t r p hj ha).trans ((V_sin m c _ r _).trans ?_)
  dsimp only
  rw [show ((grid0.coords t 0).val * 128 + p.val) / 128 = (grid0.coords t 0).val by omega,
    show ((grid0.coords t 0).val * 128 + p.val) % 128 = p.val by omega]

/-- An entry of head `u` of a stored block is `G` at the array index the block puts it at. -/
theorem head_at (c : Dev nD) (t : Fin cfg0.N) (u : Fin 4) (r : Fin 2048) (p : Fin 128) (y : S1x2048x512.Idx)
    (h1 : (y 1).val = r.val) (h2 : (y 2).val = 128 * u.val + p.val) :
    headAt (iblk m c 0 t) (iblk m c 1 t) (iblk m c 2 t) (iblk m c 3 t) u r p
      = GA m c (((cfg0.win 4).blk t).view.emb y) := by
  have hj : (grid0.coords t 2).val < 6 := (grid0.coords t 2).isLt
  have ha : (grid0.coords t 0).val < 16 := (grid0.coords t 0).isLt
  have hi : (grid0.coords t 1).val < 1 := (grid0.coords t 1).isLt
  have e0 : (((cfg0.win 4).blk t).view.emb y 0).val = (grid0.coords t 0).val := by blk_simp [idx t]
  have e1 : (((cfg0.win 4).blk t).view.emb y 1).val = (grid0.coords t 1).val * 2048 + r.val := by
    blk_simp [idx t]; omega
  have e2 : (((cfg0.win 4).blk t).view.emb y 2).val = 512 * (grid0.coords t 2).val + 128 * u.val + p.val := by
    blk_simp [idx t]; omega
  show _ = value (projAt _ _) 2 ((((cfg0.win 4).blk t).view.emb y 1).val % 256 * 16 + (((cfg0.win 4).blk t).view.emb y 0).val)
    (((cfg0.win 4).blk t).view.emb y 2).val
  refine headAt_value _ _ _ _ r p u _ _ 2 _ (grid0.coords t 2).val _ (by omega) hj e2 (fun k => ?_)
    (fun k n => w_at m c t k n hj) ?_ ?_
  · blk_point [iblk, V, idx t]
  · rw [e0, e1, show ((grid0.coords t 1).val * 2048 + r.val) % 256 = r.val % 256 by omega]
    exact cos_at m c t r p hj ha
  · rw [e0, e1, show ((grid0.coords t 1).val * 2048 + r.val) % 256 = r.val % 256 by omega]
    exact sin_at m c t r p hj ha

/-- What a point leaves in the output's block: the stores of the four heads. -/
theorem point (c : Dev nD) (t : Fin cfg0.N) (y) : (dats m 0 c).after 4 t y = GA m c (((cfg0.win 4).blk t).view.emb y) := by
  rw [after0_4]; frame_out
  canon_tiles x h
  all_goals obtain ⟨a, r, p, rfl⟩ : ∃ (a : Fin 1) (r : Fin 2048) (p : Fin 128), x = ix3 a r p := ⟨x 0, x 1, x 2, eq_ix3 x⟩
  all_goals obtain rfl : a = 0 := Subsingleton.elim _ _
  · exact (head3 _ _ _ _ r p).trans (head_at m c t 3 r p y h1 h2)
  · exact (head2 _ _ _ _ r p).trans (head_at m c t 2 r p y h1 h2)
  · exact (head1 _ _ _ _ r p).trans (head_at m c t 1 r p y h1 h2)
  · exact (head0 _ _ _ _ r p).trans (head_at m c t 0 r p y h1 (by simpa using h2))

/-- The result array after the run. -/
theorem final (c : Dev nD) : (dats m 0 c).arrAt 4 cfg0.N = GA m c := by
  refine (dats m 0 c).arrAt_eq_of_covers 4 _ (by decide +kernel) fun t _ y => ?_
  exact point m c t y

open Cert.Qkv16RefIdeal.Read in
/-- The rotated q of the group: dimension `e` of head `u` at position `s` of sequence `b`. -/
theorem ref_q (h : FVec Ideal S2048x32768 .bf16) (w : FVec Ideal S2x2048x9216 .f32) (b : Fin 8) (s : Fin 4096) (u : Fin 8)
    (e : Fin 128) : val_main_v40 (F := Ideal) h w (ix4 b s u e)
      = rot (proj h w ⟨s.val % 16, by omega⟩ ⟨b.val * 256 + s.val / 16, by omega⟩) s.val (2048 + u.val * 128) e.val := by
  pointwise [val_main_v0, val_main_v1, val_main_v2, val_main_v3, val_main_v4, val_main_v5, val_main_v6, val_main_v7,
    val_main_v8, val_main_v9, val_main_v10, val_main_v11, val_main_v12, val_main_v13, val_main_v14,
    val_main_v15, val_main_v16, val_main_v17, val_main_v18, val_main_v19, val_main_v20, val_main_v21,
    val_main_v22, val_main_v23, val_main_v24, val_main_v25, val_main_v26, val_main_v27, val_main_v28,
    val_main_v29, val_main_v30, val_main_v31, val_main_v32, val_main_v33, val_main_v34, val_main_v35,
    val_main_v36, val_main_v37, val_main_v38, val_main_v39, val_main_v40, val_main_cst, val_main_cst_0]
  have key : ∀ (n : ℕ) (hn : n < 9216), (∑ x : Fin 2048, h (ix2 ⟨b.val * 256 + s.val / 16, by omega⟩
      ⟨s.val % 16 * 2048 + x.val, by omega⟩) * w (ix3 1 x ⟨n, hn⟩) : EReal)
      = proj h w ⟨s.val % 16, by omega⟩ ⟨b.val * 256 + s.val / 16, by omega⟩ n := fun n hn => by
    unfold proj
    rw [projAt_of_lt _ _ hn]
  by_cases h1 : e.val < 32
  · refine (dif_pos h1).trans ?_
    by_cases h2 : e.val < 16
    · refine (dif_pos h2).trans (Eq.trans ?_ (rot_lo _ _ _ _ h2).symm)
      exact congrArg₂ (· - ·) (congrArg₂ (· * ·) (key _ _) rfl) (congrArg₂ (· * ·) (key _ _) rfl)
    · refine (dif_neg h2).trans (Eq.trans ?_ (rot_hi _ _ _ _ h1 h2).symm)
      exact congrArg₂ (· + ·) (congrArg₂ (· * ·) (key _ _) rfl) (congrArg₂ (· * ·) (key _ _) rfl)
  · refine (dif_neg h1).trans (Eq.trans ?_ (rot_pass _ _ _ _ h1).symm)
    exact key _ _

open Cert.Qkv16RefIdeal.Read in
/-- The rotated k of the group. -/
theorem ref_k (h : FVec Ideal S2048x32768 .bf16) (w : FVec Ideal S2x2048x9216 .f32) (b : Fin 8) (s : Fin 4096) (u : Fin 8)
    (e : Fin 128) : val_main_v74 (F := Ideal) h w (ix4 b s u e)
      = rot (proj h w ⟨s.val % 16, by omega⟩ ⟨b.val * 256 + s.val / 16, by omega⟩) s.val (3072 + 2048 + u.val * 128)
        e.val := by
  pointwise [val_main_v0, val_main_v1, val_main_v2, val_main_v3, val_main_v4, val_main_v5, val_main_v6, val_main_v41,
    val_main_v42, val_main_v43, val_main_v44, val_main_v45, val_main_v46, val_main_v47, val_main_v48,
    val_main_v49, val_main_v50, val_main_v51, val_main_v52, val_main_v53, val_main_v54, val_main_v55,
    val_main_v56, val_main_v57, val_main_v58, val_main_v59, val_main_v60, val_main_v61, val_main_v62,
    val_main_v63, val_main_v64, val_main_v65, val_main_v66, val_main_v67, val_main_v68, val_main_v69,
    val_main_v70, val_main_v71, val_main_v72, val_main_v73, val_main_v74, val_main_cst_1, val_main_cst_2]
  have key : ∀ (n : ℕ) (hn : n < 9216), (∑ x : Fin 2048, h (ix2 ⟨b.val * 256 + s.val / 16, by omega⟩
      ⟨s.val % 16 * 2048 + x.val, by omega⟩) * w (ix3 1 x ⟨n, hn⟩) : EReal)
      = proj h w ⟨s.val % 16, by omega⟩ ⟨b.val * 256 + s.val / 16, by omega⟩ n := fun n hn => by
    unfold proj
    rw [projAt_of_lt _ _ hn]
  by_cases h1 : e.val < 32
  · refine (dif_pos h1).trans ?_
    by_cases h2 : e.val < 16
    · refine (dif_pos h2).trans (Eq.trans ?_ (rot_lo _ _ _ _ h2).symm)
      exact congrArg₂ (· - ·) (congrArg₂ (· * ·) (key _ _) rfl) (congrArg₂ (· * ·) (key _ _) rfl)
    · refine (dif_neg h2).trans (Eq.trans ?_ (rot_hi _ _ _ _ h1 h2).symm)
      exact congrArg₂ (· + ·) (congrArg₂ (· * ·) (key _ _) rfl) (congrArg₂ (· * ·) (key _ _) rfl)
  · refine (dif_neg h1).trans (Eq.trans ?_ (rot_pass _ _ _ _ h1).symm)
    exact key _ _

open Cert.Qkv16RefIdeal.Read in
/-- The v of the group. -/
theorem ref_v (h : FVec Ideal S2048x32768 .bf16) (w : FVec Ideal S2x2048x9216 .f32) (b : Fin 8) (s : Fin 4096) (u : Fin 8)
    (e : Fin 128) : val_main_v76 (F := Ideal) h w (ix4 b s u e)
      = proj h w ⟨s.val % 16, by omega⟩ ⟨b.val * 256 + s.val / 16, by omega⟩ (6144 + 2048 + u.val * 128 + e.val) := by
  unfold proj
  rw [projAt_of_lt _ _ (by omega)]
  pointwise [val_main_v0, val_main_v1, val_main_v2, val_main_v3, val_main_v4, val_main_v5, val_main_v75, val_main_v76]

open Cert.Qkv16RefIdeal.Read in
/-- The reference's operations, read at an index, give `G`. -/
theorem ref_eq (h : FVec Ideal S2048x32768 .bf16) (w : FVec Ideal S2x2048x9216 .f32) :
    val_main_v89 (F := Ideal) h w = G h w := by
  funext i
  obtain ⟨a, r, n, rfl⟩ : ∃ (a : Fin 16) (r : Fin 2048) (n : Fin 3072), i = ix3 a r n := ⟨i 0, i 1, i 2, eq_ix3 i⟩
  show _ = value (proj h w a r) 2 (r.val % 256 * 16 + a.val) n.val
  rw [← value_parts (proj h w a r) 2 _ n.val n.isLt]
  simp only [show 2 * 1024 = 2048 from rfl]
  have hp : proj h w ⟨(r.val % 256 * 16 + a.val) % 16, by omega⟩
      ⟨r.val / 256 * 256 + (r.val % 256 * 16 + a.val) / 16, by omega⟩ = proj h w a r := by
    congr 1 <;> (apply Fin.ext; dsimp only; omega)
  pointwise [val_main_v77, val_main_v78, val_main_v79, val_main_v80, val_main_v81, val_main_v82, val_main_v83,
    val_main_v84, val_main_v85, val_main_v86, val_main_v87, val_main_v88, val_main_v89]
  simp only [ref_q, ref_k, ref_v, hp]

/-- The kernel's run, its result array at `G` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v46) = GA m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.Qkv16Ideal.Value.run_blocks m g)

/-- The claim: from arguments that agree, the kernel and the reference end with the same result, `G` of the arguments. -/
theorem algebraic : algebraic_Qkv16Ideal_Qkv16RefIdeal (hQkv16Ideal := Cert.Qkv16Ideal.Gen.facts)
    (hQkv16RefIdeal := Cert.Qkv16RefIdeal.Gen.facts) := by
  intro m g m' g' _ hargs
  refine ⟨fun c => GA m c, run_kernel m g, ?_⟩
  refine (θ_run Cert.Qkv16RefIdeal.defs _ _).mono (fun r h c => ?_) (Cert.Qkv16RefIdeal.Value.run (F := Ideal) m' g')
  obtain ⟨h0, h1⟩ := hargs c
  refine ⟨(h c).1.trans ?_, (h c).2⟩
  rw [Cert.Qkv16RefIdeal.Read.val_main_v89_eq, h0, h1]
  exact ref_eq _ _

/-- The reference's frame: its arguments are unchanged, and it declares no semaphore. -/
theorem frame_ref : quiescent_Qkv16RefIdeal (hQkv16RefIdeal := Cert.Qkv16RefIdeal.Gen.facts) := fun m g _ =>
  (θ_run Cert.Qkv16RefIdeal.defs _ _).mono (fun r h => ⟨fun c => (h c).2, sem_eq_zero_of_no_sems (by decide) r.2⟩)
    (Cert.Qkv16RefIdeal.Value.run (F := Ideal) m g)

end Cert.Proof.Qkv16

end
-- ==== Proof.Out.AttnOut.lean ====
/- Hand-written, untrusted: the output projection of the attention. `G` is what it computes: the residual stream plus, scaled by the sequence's gate, the
   product of the rows with the weights of layer 1. -/
module

public import proofs.«01_k».proof.Proof.Gen.AttnOutIdeal.Value
public import proofs.«01_k».proof.Proof.Gen.AttnOutRefIdeal.Run
public import proofs.«01_k».proof.Proof.Gen.AttnOutRefIdeal.Read
public import proofs.«01_k».proof.Defs
public import Idealize.ShloMosaic.Init
public import Idealize.ShloMosaic.Lib.Pipeline.ValueKit

@[expose] public section

set_option maxRecDepth 16384

noncomputable section

namespace Cert.Proof.AttnOut

open Cert.AttnOutIdeal Cert.AttnOutIdeal.Gen Idealize.ShloMosaic Idealize.ShloMosaic.TcCoe Idealize.SL.Sem
open Idealize.ShloMosaic.Pipeline (Dat)

/-- The new residual stream at a position and a feature. -/
def G (a : FVec Ideal S32768x1024 .bf16) (w : FVec Ideal S2x1024x2048 .f32) (x : FVec Ideal S32768x2048 .f32)
    (gate : FVec Ideal S8x1x2048 .f32) : FVec Ideal S32768x2048 .f32 :=
  fun i => x i + gate (ix3 ⟨(i 0).val / 4096, by have h : (i 0).val < 32768 := (i 0).isLt; omega⟩ 0 (i 1))
    * ∑ k : Fin 1024, a (ix2 (i 0) k) * w (ix3 1 k (i 1))

variable (m : (ℓ : Loc nD τ sig) → Buf (Elt Ideal) ℓ)

/-- `G` of the launched arguments. -/
abbrev GA (c : Dev nD) : FVec Ideal S32768x2048 .f32 :=
  G (m ((c : Thread nD τ).loc main_arg0)) (m ((c : Thread nD τ).loc main_arg1)) (m ((c : Thread nD τ).loc main_arg2))
    (m ((c : Thread nD τ).loc main_arg3))

/-- The block of each window at a grid point: sixteen row tiles, two for a sequence, then four column tiles. -/
theorem idx : ∀ t : Fin cfg0.N, win0_0.index t = ![(grid0.coords t 0).val, 0]
    ∧ win0_1.index t = ![1, 0, (grid0.coords t 1).val]
    ∧ win0_2.index t = ![(grid0.coords t 0).val, (grid0.coords t 1).val]
    ∧ win0_3.index t = ![(grid0.coords t 0).val / 2, 0, (grid0.coords t 1).val]
    ∧ win0_4.index t = ![(grid0.coords t 0).val, (grid0.coords t 1).val] :=
  (by decide +kernel : ∀ t : Fin grid0.N, _)

/-- What the body stores at an index of its block is `G` at the array index the block puts it at. -/
theorem point (c : Dev nD) (t : Fin cfg0.N) (y) : k0_pay1 (iblk m c 0 t) (iblk m c 1 t) (iblk m c 2 t) (iblk m c 3 t) y
    = GA m c (((cfg0.win 4).blk t).view.emb y) := by
  show _ = G _ _ _ _ _
  pointwise [k0_pay1, G]
  blk_point [iblk, V, idx t]

/-- The result array after the run. -/
theorem final (c : Dev nD) : (dats m 0 c).arrAt 4 cfg0.N = GA m c := by
  refine (dats m 0 c).arrAt_eq_of_covers 4 _ (by decide +kernel) fun t _ y => ?_
  blk_simp
  rw [after0_4]; frame_out
  exact point m c t y

/-- The reference's operations, read at an index, give `G`. -/
theorem ref_eq (a : FVec Ideal S32768x1024 .bf16) (w : FVec Ideal S2x1024x2048 .f32) (x : FVec Ideal S32768x2048 .f32)
    (gate : FVec Ideal S8x1x2048 .f32) : Cert.AttnOutRefIdeal.Read.val_main_v9 (F := Ideal) a w x gate = G a w x gate := by
  unfold Cert.AttnOutRefIdeal.Read.val_main_v9 Cert.AttnOutRefIdeal.Read.val_main_v8 Cert.AttnOutRefIdeal.Read.val_main_v7
    Cert.AttnOutRefIdeal.Read.val_main_v6 Cert.AttnOutRefIdeal.Read.val_main_v5 Cert.AttnOutRefIdeal.Read.val_main_v4
    Cert.AttnOutRefIdeal.Read.val_main_v3 Cert.AttnOutRefIdeal.Read.val_main_v2 Cert.AttnOutRefIdeal.Read.val_main_v1
    Cert.AttnOutRefIdeal.Read.val_main_v0
  funext i
  pointwise [G]

/-- The kernel's run, its result array at `G` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v1) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.AttnOutIdeal.Value.run_blocks m g)

/-- The claim: from arguments that agree, the kernel and the reference end with the same result, `G` of the arguments. -/
theorem algebraic : algebraic_AttnOutIdeal_AttnOutRefIdeal (hAttnOutIdeal := Cert.AttnOutIdeal.Gen.facts)
    (hAttnOutRefIdeal := Cert.AttnOutRefIdeal.Gen.facts) := by
  intro m g m' g' _ hargs
  refine ⟨fun c => GA m c, run_kernel m g, ?_⟩
  refine (θ_run Cert.AttnOutRefIdeal.defs _ _).mono (fun r h c => ?_) (Cert.AttnOutRefIdeal.Value.run (F := Ideal) m' g')
  obtain ⟨h0, h1, h2, h3⟩ := hargs c
  refine ⟨(h c).1.trans ?_, (h c).2⟩
  rw [Cert.AttnOutRefIdeal.Read.val_main_v9_eq, h0, h1, h2, h3]
  exact ref_eq _ _ _ _

/-- The reference's frame: its arguments are unchanged, and it declares no semaphore. -/
theorem frame_ref : quiescent_AttnOutRefIdeal (hAttnOutRefIdeal := Cert.AttnOutRefIdeal.Gen.facts) := fun m g _ =>
  (θ_run Cert.AttnOutRefIdeal.defs _ _).mono (fun r h => ⟨fun c => (h c).2, sem_eq_zero_of_no_sems (by decide) r.2⟩)
    (Cert.AttnOutRefIdeal.Value.run (F := Ideal) m g)

end Cert.Proof.AttnOut

end
-- ==== Proof.Out.FourierOut.lean ====
/- Hand-written, untrusted: the output map of the Fourier mixer. `G` is what it computes: the residual stream plus, scaled by the sequence's gate, the
   product of the rows with the weights of layer 1. -/
module

public import proofs.«01_k».proof.Proof.Gen.FourierOutIdeal.Value
public import proofs.«01_k».proof.Proof.Gen.FourierOutRefIdeal.Run
public import proofs.«01_k».proof.Proof.Gen.FourierOutRefIdeal.Read
public import proofs.«01_k».proof.Defs
public import Idealize.ShloMosaic.Init
public import Idealize.ShloMosaic.Lib.Pipeline.ValueKit

@[expose] public section

set_option maxRecDepth 16384

noncomputable section

namespace Cert.Proof.FourierOut

open Cert.FourierOutIdeal Cert.FourierOutIdeal.Gen Idealize.ShloMosaic Idealize.ShloMosaic.TcCoe Idealize.SL.Sem
open Idealize.ShloMosaic.Pipeline (Dat)

/-- The new residual stream at a position and a feature. -/
def G (a : FVec Ideal S32768x2048 .bf16) (w : FVec Ideal S2x2048x2048 .f32) (x : FVec Ideal S32768x2048 .f32)
    (gate : FVec Ideal S8x1x2048 .f32) : FVec Ideal S32768x2048 .f32 :=
  fun i => x i + gate (ix3 ⟨(i 0).val / 4096, by have h : (i 0).val < 32768 := (i 0).isLt; omega⟩ 0 (i 1))
    * ∑ k : Fin 2048, a (ix2 (i 0) k) * w (ix3 1 k (i 1))

variable (m : (ℓ : Loc nD τ sig) → Buf (Elt Ideal) ℓ)

/-- `G` of the launched arguments. -/
abbrev GA (c : Dev nD) : FVec Ideal S32768x2048 .f32 :=
  G (m ((c : Thread nD τ).loc main_arg0)) (m ((c : Thread nD τ).loc main_arg1)) (m ((c : Thread nD τ).loc main_arg2))
    (m ((c : Thread nD τ).loc main_arg3))

/-- The block of each window at a grid point: sixteen row tiles, two for a sequence, then four column tiles. -/
theorem idx : ∀ t : Fin cfg0.N, win0_0.index t = ![(grid0.coords t 0).val, 0]
    ∧ win0_1.index t = ![1, 0, (grid0.coords t 1).val]
    ∧ win0_2.index t = ![(grid0.coords t 0).val, (grid0.coords t 1).val]
    ∧ win0_3.index t = ![(grid0.coords t 0).val / 2, 0, (grid0.coords t 1).val]
    ∧ win0_4.index t = ![(grid0.coords t 0).val, (grid0.coords t 1).val] :=
  (by decide +kernel : ∀ t : Fin grid0.N, _)

/-- What the body stores at an index of its block is `G` at the array index the block puts it at. -/
theorem point (c : Dev nD) (t : Fin cfg0.N) (y) : k0_pay1 (iblk m c 0 t) (iblk m c 1 t) (iblk m c 2 t) (iblk m c 3 t) y
    = GA m c (((cfg0.win 4).blk t).view.emb y) := by
  show _ = G _ _ _ _ _
  pointwise [k0_pay1, G]
  blk_point [iblk, V, idx t]

/-- The result array after the run. -/
theorem final (c : Dev nD) : (dats m 0 c).arrAt 4 cfg0.N = GA m c := by
  refine (dats m 0 c).arrAt_eq_of_covers 4 _ (by decide +kernel) fun t _ y => ?_
  blk_simp
  rw [after0_4]; frame_out
  exact point m c t y

/-- The reference's operations, read at an index, give `G`. -/
theorem ref_eq (a : FVec Ideal S32768x2048 .bf16) (w : FVec Ideal S2x2048x2048 .f32) (x : FVec Ideal S32768x2048 .f32)
    (gate : FVec Ideal S8x1x2048 .f32) : Cert.FourierOutRefIdeal.Read.val_main_v9 (F := Ideal) a w x gate = G a w x gate := by
  unfold Cert.FourierOutRefIdeal.Read.val_main_v9 Cert.FourierOutRefIdeal.Read.val_main_v8 Cert.FourierOutRefIdeal.Read.val_main_v7
    Cert.FourierOutRefIdeal.Read.val_main_v6 Cert.FourierOutRefIdeal.Read.val_main_v5 Cert.FourierOutRefIdeal.Read.val_main_v4
    Cert.FourierOutRefIdeal.Read.val_main_v3 Cert.FourierOutRefIdeal.Read.val_main_v2 Cert.FourierOutRefIdeal.Read.val_main_v1
    Cert.FourierOutRefIdeal.Read.val_main_v0
  funext i
  pointwise [G]

/-- The kernel's run, its result array at `G` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v1) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.FourierOutIdeal.Value.run_blocks m g)

/-- The claim: from arguments that agree, the kernel and the reference end with the same result, `G` of the arguments. -/
theorem algebraic : algebraic_FourierOutIdeal_FourierOutRefIdeal (hFourierOutIdeal := Cert.FourierOutIdeal.Gen.facts)
    (hFourierOutRefIdeal := Cert.FourierOutRefIdeal.Gen.facts) := by
  intro m g m' g' _ hargs
  refine ⟨fun c => GA m c, run_kernel m g, ?_⟩
  refine (θ_run Cert.FourierOutRefIdeal.defs _ _).mono (fun r h c => ?_) (Cert.FourierOutRefIdeal.Value.run (F := Ideal) m' g')
  obtain ⟨h0, h1, h2, h3⟩ := hargs c
  refine ⟨(h c).1.trans ?_, (h c).2⟩
  rw [Cert.FourierOutRefIdeal.Read.val_main_v9_eq, h0, h1, h2, h3]
  exact ref_eq _ _ _ _

/-- The reference's frame: its arguments are unchanged, and it declares no semaphore. -/
theorem frame_ref : quiescent_FourierOutRefIdeal (hFourierOutRefIdeal := Cert.FourierOutRefIdeal.Gen.facts) := fun m g _ =>
  (θ_run Cert.FourierOutRefIdeal.defs _ _).mono (fun r h => ⟨fun c => (h c).2, sem_eq_zero_of_no_sems (by decide) r.2⟩)
    (Cert.FourierOutRefIdeal.Value.run (F := Ideal) m g)

end Cert.Proof.FourierOut

end
-- ==== Proof.Norm.Rms.lean ====
/- Hand-written, untrusted: the root mean square norm of one row of 2048 features over the extended reals. -/
module

public import Idealize.ShloMosaic.Init
public import Idealize.ShloMosaic.Lib.Pipeline.ValueKit

@[expose] public section

noncomputable section

namespace Cert.Proof.Norm

open Idealize.ShloMosaic

/-- One feature of a row, divided by the root of the row's mean square and multiplied by the feature's gain `g`. The two
    literals are the programs' words of 2048 and of the epsilon. -/
def rms (row : Fin 2048 → EReal) (x g : EReal) : EReal :=
  x * Ideal.rsqrt (Ideal.div (∑ k, row k * row k) (Ideal.ofBits .f32 0x45000000#32) + Ideal.ofBits .f32 0x358637BD#32) * g

end Cert.Proof.Norm

end
-- ==== Proof.Norm.Final.lean ====
/- Hand-written, untrusted: the final norm. `G` is what it computes: the root mean square norm of every row. -/
module

public import proofs.«01_k».proof.Proof.Norm.Rms
public import proofs.«01_k».proof.Proof.Gen.NormIdeal.Value
public import proofs.«01_k».proof.Proof.Gen.NormRefIdeal.Run
public import proofs.«01_k».proof.Proof.Gen.NormRefIdeal.Read
public import proofs.«01_k».proof.Defs

@[expose] public section

set_option maxRecDepth 16384

noncomputable section

namespace Cert.Proof.Norm

open Cert.NormIdeal Cert.NormIdeal.Gen Idealize.ShloMosaic Idealize.ShloMosaic.TcCoe Idealize.SL.Sem
open Idealize.ShloMosaic.Pipeline (Dat)

/-- The normed residual stream at a position and a feature. -/
def G (x : FVec Ideal S32768x2048 .f32) (g : FVec Ideal S2048 .f32) : FVec Ideal S32768x2048 .f32 :=
  fun i => rms (fun k => x (ix2 (i 0) k)) (x i) (g (ix1 (i 1)))

variable (m : (ℓ : Loc nD τ sig) → Buf (Elt Ideal) ℓ)

/-- `G` of the launched arguments. -/
abbrev GA (c : Dev nD) : FVec Ideal S32768x2048 .f32 :=
  G (m ((c : Thread nD τ).loc main_arg0)) (m ((c : Thread nD τ).loc main_arg1))

/-- The block of each window at a grid point: 64 row tiles. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- What the body stores at an index of its block is `G` at the array index the block puts it at. -/
theorem point (c : Dev nD) (t : Fin cfg0.N) (y) : k0_pay1 (iblk m c 0 t) (iblk m c 1 t) y
    = GA m c (((cfg0.win 2).blk t).view.emb y) := by
  show _ = G _ _ _
  pointwise [k0_pay1, G, rms]
  blk_point [iblk, V, idx t]

/-- The result array after the run. -/
theorem final (c : Dev nD) : (dats m 0 c).arrAt 2 cfg0.N = GA m c := by
  refine (dats m 0 c).arrAt_eq_of_covers 2 _ (by decide +kernel) fun t _ y => ?_
  blk_simp
  rw [after0_2]; frame_out
  exact point m c t y

open Cert.NormRefIdeal.Read in
/-- The reference's operations, read at an index, give `G`. -/
theorem ref_eq (x : FVec Ideal S32768x2048 .f32) (g : FVec Ideal S2048 .f32) :
    val_main_v12 (F := Ideal) x g = G x g := by
  funext i
  pointwise [G, rms, val_main_v12, val_main_v11, val_main_v10, val_main_v9, val_main_v8, val_main_v7, val_main_v6,
    val_main_v5, val_main_cst_1, val_main_v4, val_main_v3, val_main_cst_0, val_main_v2, val_main_v1, val_main_cst,
    val_main_v0]

/-- The kernel's run, its result array at `G` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v1) = GA m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.NormIdeal.Value.run_blocks m g)

/-- The claim: from arguments that agree, the kernel and the reference end with the same result, `G` of the arguments. -/
theorem algebraic : algebraic_NormIdeal_NormRefIdeal (hNormIdeal := Cert.NormIdeal.Gen.facts)
    (hNormRefIdeal := Cert.NormRefIdeal.Gen.facts) := by
  intro m g m' g' _ hargs
  refine ⟨fun c => GA m c, run_kernel m g, ?_⟩
  refine (θ_run Cert.NormRefIdeal.defs _ _).mono (fun r h c => ?_) (Cert.NormRefIdeal.Value.run (F := Ideal) m' g')
  obtain ⟨h0, h1⟩ := hargs c
  refine ⟨(h c).1.trans ?_, (h c).2⟩
  rw [Cert.NormRefIdeal.Read.val_main_v12_eq, h0, h1]
  exact ref_eq _ _

/-- The reference's frame: its arguments are unchanged, and it declares no semaphore. -/
theorem frame_ref : quiescent_NormRefIdeal (hNormRefIdeal := Cert.NormRefIdeal.Gen.facts) := fun m g _ =>
  (θ_run Cert.NormRefIdeal.defs _ _).mono (fun r h => ⟨fun c => (h c).2, sem_eq_zero_of_no_sems (by decide) r.2⟩)
    (Cert.NormRefIdeal.Value.run (F := Ideal) m g)

end Cert.Proof.Norm

end
-- ==== Proof.Norm.Router.lean ====
/- Hand-written, untrusted: the norm, modulation and router of a layer. `feat` is one modulated feature; the kernel's two
   results are the features and the router's logits, padded with zeros to 128 columns. -/
module

public import proofs.«01_k».proof.Proof.Norm.Rms
public import proofs.«01_k».proof.Proof.Gen.RouterIdeal.Value
public import proofs.«01_k».proof.Proof.Gen.RouterRefIdeal.Run
public import proofs.«01_k».proof.Proof.Gen.RouterRefIdeal.Read
public import Idealize.ShloMosaic.Lib.KernelVsHost
public import proofs.«01_k».proof.Defs

@[expose] public section

set_option maxRecDepth 16384

noncomputable section

namespace Cert.Proof.Router

open Cert.RouterIdeal Cert.RouterIdeal.Gen Idealize.ShloMosaic Idealize.ShloMosaic.TcCoe Idealize.SL.Sem
open Idealize.ShloMosaic.Pipeline (Dat)
open Cert.Proof.Norm (rms)

/-- The sequence a row of the residual stream belongs to. -/
def seqOf (r : Fin 32768) : Fin 8 := ⟨r.val / 4096, by have h : r.val < 32768 := r.isLt; omega⟩

/-- The normed and modulated feature `k` of row `r`. -/
def feat (x : FVec Ideal S32768x2048 .f32) (g : FVec Ideal S2048 .f32) (sh sc : FVec Ideal S8x1x2048 .f32)
    (r : Fin 32768) (k : Fin 2048) : EReal :=
  rms (fun l => x (ix2 r l)) (x (ix2 r k)) (g (ix1 k)) * (Ideal.ofBits .f32 0x3F800000#32 + sc (ix3 (seqOf r) 0 k))
    + sh (ix3 (seqOf r) 0 k)

/-- The features, as an array. -/
def H (x : FVec Ideal S32768x2048 .f32) (g : FVec Ideal S2048 .f32) (sh sc : FVec Ideal S8x1x2048 .f32) :
    FVec Ideal S32768x2048 .bf16 :=
  fun i => feat x g sh sc (i 0) (i 1)

/-- A router's logit: a row's features against a column of the weights, zero in the columns beyond the experts. -/
def logits (x : FVec Ideal S32768x2048 .f32) (g : FVec Ideal S2048 .f32) (sh sc : FVec Ideal S8x1x2048 .f32)
    (w : FVec Ideal S2048x16 .f32) (r : Fin 32768) (n : Fin 128) : EReal :=
  if h : n.val < 16 then ∑ k, feat x g sh sc r k * w (ix2 k ⟨n.val, h⟩) else 0

/-- The logits, as an array. -/
def L (x : FVec Ideal S32768x2048 .f32) (g : FVec Ideal S2048 .f32) (sh sc : FVec Ideal S8x1x2048 .f32)
    (w : FVec Ideal S2048x16 .f32) : FVec Ideal S32768x128 .f32 :=
  fun i => logits x g sh sc w (i 0) (i 1)

variable (m : (ℓ : Loc nD τ sig) → Buf (Elt Ideal) ℓ)

/-- `H` of the launched arguments. -/
abbrev HA (c : Dev nD) : FVec Ideal S32768x2048 .bf16 :=
  H (m ((c : Thread nD τ).loc main_arg0)) (m ((c : Thread nD τ).loc main_arg1)) (m ((c : Thread nD τ).loc main_arg2))
    (m ((c : Thread nD τ).loc main_arg3))

/-- `L` of the launched arguments. -/
abbrev LA (c : Dev nD) : FVec Ideal S32768x128 .f32 :=
  L (m ((c : Thread nD τ).loc main_arg0)) (m ((c : Thread nD τ).loc main_arg1)) (m ((c : Thread nD τ).loc main_arg2))
    (m ((c : Thread nD τ).loc main_arg3)) (m ((c : Thread nD τ).loc main_arg4))

/-- The block of each window at a grid point: 64 row tiles, eight of them to a sequence. -/
theorem idx : ∀ t : Fin cfg0.N, win0_0.index t = ![(grid0.coords t 0).val, 0] ∧ win0_1.index t = ![0, 0]
    ∧ win0_2.index t = ![(grid0.coords t 0).val / 8, 0, 0] ∧ win0_3.index t = ![(grid0.coords t 0).val / 8, 0, 0]
    ∧ win0_4.index t = ![0, 0] ∧ win0_5.index t = ![(grid0.coords t 0).val, 0]
    ∧ win0_6.index t = ![(grid0.coords t 0).val, 0] :=
  (by decide +kernel : ∀ t : Fin grid0.N, _)

/-- The gain, as the row the kernel reads. -/
theorem V_gain (c : Dev nD) (k : Fin 2048) :
    (V m c main_v2 : FVec Ideal S1x2048 .f32) (ix2 0 k)
      = (m ((c : Thread nD τ).loc main_arg1) : FVec Ideal S2048 .f32) (ix1 k) := by
  unfold_abbrev_sides
  simp only [List.flatten_cons, List.flatten_nil, List.cons_append, List.nil_append]
  after_results
  pointwise []

/-- An array of 16 columns, padded with converted zeros to 128: its entry in a column. -/
theorem pad_zero {rows : ℕ} (x : FVec Ideal ⟨2, ![rows, 16]⟩ .f32)
    (hp : Shape.Pads ⟨2, ![rows, 16]⟩ (![0, 0] : Fin 2 → ℕ) ![0, 112] ![0, 0] ⟨2, ![rows, 128]⟩) (k : Fin rows) (n : Fin 128) :
    pad ⟨2, ![rows, 128]⟩ ![0, 0] ![0, 112] ![0, 0] x (sitofp .f32 (constantI S_ 32 0#32) : FVec Ideal S_ .f32) hp h_S_
      (ix2 k n) = if h : n.val < 16 then x (ix2 k ⟨n.val, h⟩) else (0 : EReal) := by
  by_cases h : n.val < 16
  · rw [dif_pos h]
    exact pad_apply_of_inside _ _ _ _ _ _ _ _ (ix2 k ⟨n.val, h⟩) (fun a => by
      match a with
      | ⟨0, _⟩ => show k.val = 0 + k.val * 1; omega
      | ⟨1, _⟩ => show n.val = 0 + n.val * 1; omega)
  · rw [dif_neg h]
    refine (pad_apply_of_not_inside _ _ _ _ _ _ _ _ (1 : Fin 2) (fun hc => h ?_)).trans ?_
    · have := hc.2.2
      show n.val < 16
      have h2 : (n.val - 0) / 1 < 16 := this
      omega
    · show ((((0#32 : BitVec 32).toInt : ℝ)) : EReal) = 0
      simp

/-- The padded weights: the router's columns, then zeros. -/
theorem V_w (c : Dev nD) (k : Fin 2048) (n : Fin 128) :
    (V m c main_v1 : FVec Ideal S2048x128 .bf16) (ix2 k n)
      = if h : n.val < 16 then (m ((c : Thread nD τ).loc main_arg4) : FVec Ideal S2048x16 .f32) (ix2 k ⟨n.val, h⟩) else (0 : EReal) := by
  unfold_abbrev_sides
  simp only [List.flatten_cons, List.flatten_nil, List.cons_append, List.nil_append]
  after_results
  exact pad_zero (rows := 2048) (m ((c : Thread nD τ).loc main_arg4)) pads_S2048x16_S2048x128_000_01120 k n

/-- The gain's block is the whole array. -/
theorem gain_at (c : Dev nD) (t : Fin cfg0.N) (k : Fin 2048) :
    (iblk m c 1 t : FVec Ideal S1x2048 .f32) (ix2 0 k) = (m ((c : Thread nD τ).loc main_arg1) : FVec Ideal S2048 .f32) (ix1 k) := by
  rw [← V_gain m c k]
  show (V m c main_v2 : FVec Ideal S1x2048 .f32) (((cfg0.win 1).blk t).view.emb (ix2 0 k)) = _
  congr 1
  blk_ext [idx t]

/-- The padded weights' block is the whole array. -/
theorem w_at (c : Dev nD) (t : Fin cfg0.N) (k : Fin 2048) (n : Fin 128) :
    (iblk m c 4 t : FVec Ideal S2048x128 .bf16) (ix2 k n)
      = if h : n.val < 16 then (m ((c : Thread nD τ).loc main_arg4) : FVec Ideal S2048x16 .f32) (ix2 k ⟨n.val, h⟩) else (0 : EReal) := by
  rw [← V_w m c k n]
  show (V m c main_v1 : FVec Ideal S2048x128 .bf16) (((cfg0.win 4).blk t).view.emb (ix2 k n)) = _
  congr 1
  blk_ext [idx t]

/-- What the body stores of the features at row `r` of its block and feature `k`. -/
theorem feat_at (c : Dev nD) (t : Fin cfg0.N) (r : Fin 512) (k : Fin 2048) (R : Fin 32768)
    (hR : R.val = (grid0.coords t 0).val * 512 + r.val) :
    k0_pay1 (F := Ideal) (iblk m c 0 t) (iblk m c 1 t) (iblk m c 3 t) (iblk m c 2 t) (ix2 r k)
      = feat (m ((c : Thread nD τ).loc main_arg0)) (m ((c : Thread nD τ).loc main_arg1)) (m ((c : Thread nD τ).loc main_arg2))
    (m ((c : Thread nD τ).loc main_arg3)) R k := by
  pointwise [k0_pay1, feat, rms, seqOf]
  rw [gain_at]
  blk_point [iblk, V, idx t]

/-- What the body stores of the features is `H` at the array index the block puts it at. -/
theorem point5 (c : Dev nD) (t : Fin cfg0.N) (y : S512x2048.Idx) :
    k0_pay1 (F := Ideal) (iblk m c 0 t) (iblk m c 1 t) (iblk m c 3 t) (iblk m c 2 t) y
      = HA m c (((cfg0.win 5).blk t).view.emb y) := by
  obtain ⟨r, k, rfl⟩ : ∃ (r : Fin 512) (k : Fin 2048), y = ix2 r k := ⟨y 0, y 1, eq_ix2 y⟩
  refine (feat_at m c t r k (((cfg0.win 5).blk t).view.emb (ix2 r k) 0) (by blk_simp [idx t])).trans ?_
  show feat _ _ _ _ _ _ = feat _ _ _ _ _ _
  congr 1
  exact Fin.ext (by blk_simp [idx t])

/-- What the body stores of the logits is `L` at the array index the block puts it at. -/
theorem point6 (c : Dev nD) (t : Fin cfg0.N) (y : S512x128.Idx) :
    k0_pay2 (F := Ideal) (iblk m c 0 t) (iblk m c 1 t) (iblk m c 3 t) (iblk m c 2 t) (iblk m c 4 t) y
      = LA m c (((cfg0.win 6).blk t).view.emb y) := by
  obtain ⟨r, n, rfl⟩ : ∃ (r : Fin 512) (n : Fin 128), y = ix2 r n := ⟨y 0, y 1, eq_ix2 y⟩
  show _ = logits _ _ _ _ _ (((cfg0.win 6).blk t).view.emb (ix2 r n) 0) (((cfg0.win 6).blk t).view.emb (ix2 r n) 1)
  rw [show (((cfg0.win 6).blk t).view.emb (ix2 r n) 1 : Fin 128) = n from Fin.ext (by blk_simp [idx t])]
  pointwise [k0_pay2, logits]
  simp only [w_at, feat_at m c t r _ (((cfg0.win 6).blk t).view.emb (ix2 r n) 0) (by blk_simp [idx t])]
  by_cases h : n.val < 16
  · simp only [dif_pos h]
  · simp only [dif_neg h, mul_zero, Finset.sum_const_zero]

/-- The features after the run. -/
theorem final5 (c : Dev nD) : (dats m 0 c).arrAt 5 cfg0.N = HA m c := by
  refine (dats m 0 c).arrAt_eq_of_covers 5 _ (by decide +kernel) fun t _ y => ?_
  blk_simp
  rw [after0_5]; frame_out
  exact point5 m c t y

/-- The logits after the run. -/
theorem final6 (c : Dev nD) : (dats m 0 c).arrAt 6 cfg0.N = LA m c := by
  refine (dats m 0 c).arrAt_eq_of_covers 6 _ (by decide +kernel) fun t _ y => ?_
  blk_simp
  rw [after0_6]; frame_out
  exact point6 m c t y

open Cert.RouterRefIdeal.Read in
/-- The reference's features before the last rounding. -/
theorem ref_feat (x : FVec Ideal S32768x2048 .f32) (g : FVec Ideal S2048 .f32) (sh sc : FVec Ideal S8x1x2048 .f32)
    (i : S32768x2048.Idx) : val_main_v20 (F := Ideal) x g sh sc i = feat x g sh sc (i 0) (i 1) := by
  pointwise [feat, seqOf, rms, val_main_v20, val_main_v19, val_main_v18, val_main_v17, val_main_v16, val_main_v15,
    val_main_v14, val_main_cst_2, val_main_v13, val_main_v12, val_main_v11, val_main_v10, val_main_v9, val_main_v8,
    val_main_v7, val_main_v6, val_main_v5, val_main_cst_1, val_main_v4, val_main_v3, val_main_cst_0, val_main_v2,
    val_main_v1, val_main_cst, val_main_v0]

open Cert.RouterRefIdeal.Read in
/-- The reference's features are `H`. -/
theorem ref_h (x : FVec Ideal S32768x2048 .f32) (g : FVec Ideal S2048 .f32) (sh sc : FVec Ideal S8x1x2048 .f32) :
    val_main_v21 (F := Ideal) x g sh sc = H x g sh sc := by
  funext i
  rw [val_main_v21_apply]
  exact ref_feat x g sh sc i

open Cert.RouterRefIdeal.Read in
/-- The reference's padded logits are `L`. -/
theorem ref_l (x : FVec Ideal S32768x2048 .f32) (g : FVec Ideal S2048 .f32) (sh sc : FVec Ideal S8x1x2048 .f32)
    (w : FVec Ideal S2048x16 .f32) : val_main_v23 (F := Ideal) x g sh sc w = L x g sh sc w := by
  funext i
  obtain ⟨r, n, rfl⟩ : ∃ (r : Fin 32768) (n : Fin 128), i = ix2 r n := ⟨i 0, i 1, eq_ix2 i⟩
  refine (pad_zero (val_main_v22 (F := Ideal) x g sh sc w) _ r n).trans ?_
  show _ = logits x g sh sc w r n
  unfold logits
  by_cases h : n.val < 16
  · rw [dif_pos h, dif_pos h, val_main_v22_apply]
    refine Finset.sum_congr rfl fun k _ => ?_
    rw [ref_feat]
    exact congrArg₂ (· * ·) rfl (congrArg w (eq_ix2 _))
  · rw [dif_neg h, dif_neg h]

/-- The kernel's run, its result arrays at `H` and `L` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v3_0) = HA m c
      ∧ r.2.mem ((c : Thread nD τ).loc main_v3_1) = LA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Cert.RouterIdeal.Value.run_blocks m g)

/-- The claim: from arguments that agree, the kernel and the reference end with the same features and logits. -/
theorem algebraic : algebraic_RouterIdeal_RouterRefIdeal (hRouterIdeal := Cert.RouterIdeal.Gen.facts)
    (hRouterRefIdeal := Cert.RouterRefIdeal.Gen.facts) := by
  intro m g m' g' _ hargs
  refine ⟨fun c => HA m c, fun c => LA m c, run_kernel m g, ?_⟩
  refine (θ_run Cert.RouterRefIdeal.defs _ _).mono (fun r h c => ?_) (Cert.RouterRefIdeal.Value.run (F := Ideal) m' g')
  obtain ⟨h0, h1, h2, h3, h4⟩ := hargs c
  refine ⟨(h c).1.trans ?_, (h c).2.1.trans ?_, (h c).2.2⟩
  · rw [Cert.RouterRefIdeal.Read.val_main_v21_eq, h0, h1, h2, h3]
    exact ref_h _ _ _ _
  · rw [Cert.RouterRefIdeal.Read.val_main_v23_eq, h0, h1, h2, h3, h4]
    exact ref_l _ _ _ _ _

/-- The reference's frame: its arguments are unchanged, and it declares no semaphore. -/
theorem frame_ref : quiescent_RouterRefIdeal (hRouterRefIdeal := Cert.RouterRefIdeal.Gen.facts) := fun m g _ =>
  (θ_run Cert.RouterRefIdeal.defs _ _).mono (fun r h => ⟨fun c => (h c).2.2, sem_eq_zero_of_no_sems (by decide) r.2⟩)
    (Cert.RouterRefIdeal.Value.run (F := Ideal) m g)

end Cert.Proof.Router

end
-- ==== Proof.Norm.Mod.lean ====
/- Hand-written, untrusted: the norm and modulation before a mixer. The result is the array of modulated features, `H`, that
   the router's call returns too. -/
module

public import proofs.«01_k».proof.Proof.Norm.Router
public import proofs.«01_k».proof.Proof.Gen.ModIdeal.Value
public import proofs.«01_k».proof.Proof.Gen.ModRefIdeal.Run
public import proofs.«01_k».proof.Proof.Gen.ModRefIdeal.Read
public import proofs.«01_k».proof.Defs

@[expose] public section

set_option maxRecDepth 16384

noncomputable section

namespace Cert.Proof.Mod

open Cert.ModIdeal Cert.ModIdeal.Gen Idealize.ShloMosaic Idealize.ShloMosaic.TcCoe Idealize.SL.Sem
open Cert.Proof.Norm (rms)
open Cert.Proof.Router (feat H seqOf)

variable (m : (ℓ : Loc nD τ sig) → Buf (Elt Ideal) ℓ)

/-- `H` of the launched arguments. -/
abbrev HA (c : Dev nD) : FVec Ideal S32768x2048 .bf16 :=
  H (m ((c : Thread nD τ).loc main_arg0)) (m ((c : Thread nD τ).loc main_arg1)) (m ((c : Thread nD τ).loc main_arg2))
    (m ((c : Thread nD τ).loc main_arg3))

/-- The block of each window at a grid point: 64 row tiles, eight of them to a sequence. -/
theorem idx : ∀ t : Fin cfg0.N, win0_0.index t = ![(grid0.coords t 0).val, 0] ∧ win0_1.index t = ![0, 0]
    ∧ win0_2.index t = ![(grid0.coords t 0).val / 8, 0, 0] ∧ win0_3.index t = ![(grid0.coords t 0).val / 8, 0, 0]
    ∧ win0_4.index t = ![(grid0.coords t 0).val, 0] :=
  (by decide +kernel : ∀ t : Fin grid0.N, _)

/-- The gain, as the row the kernel reads. -/
theorem V_gain (c : Dev nD) (k : Fin 2048) :
    (V m c main_v0 : FVec Ideal S1x2048 .f32) (ix2 0 k)
      = (m ((c : Thread nD τ).loc main_arg1) : FVec Ideal S2048 .f32) (ix1 k) := by
  unfold_abbrev_sides
  after_results
  pointwise []

/-- The gain's block is the whole array. -/
theorem gain_at (c : Dev nD) (t : Fin cfg0.N) (k : Fin 2048) :
    (iblk m c 1 t : FVec Ideal S1x2048 .f32) (ix2 0 k) = (m ((c : Thread nD τ).loc main_arg1) : FVec Ideal S2048 .f32) (ix1 k) := by
  rw [← V_gain m c k]
  show (V m c main_v0 : FVec Ideal S1x2048 .f32) (((cfg0.win 1).blk t).view.emb (ix2 0 k)) = _
  congr 1
  blk_ext [idx t]

/-- What the body stores at an index of its block is `H` at the array index the block puts it at. -/
theorem point (c : Dev nD) (t : Fin cfg0.N) (y : S512x2048.Idx) :
    k0_pay1 (F := Ideal) (iblk m c 0 t) (iblk m c 1 t) (iblk m c 3 t) (iblk m c 2 t) y
      = HA m c (((cfg0.win 4).blk t).view.emb y) := by
  obtain ⟨r, k, rfl⟩ : ∃ (r : Fin 512) (k : Fin 2048), y = ix2 r k := ⟨y 0, y 1, eq_ix2 y⟩
  show _ = feat _ _ _ _ _ _
  pointwise [k0_pay1, feat, rms, seqOf]
  rw [gain_at]
  blk_point [iblk, V, idx t]

/-- The result array after the run. -/
theorem final (c : Dev nD) : (dats m 0 c).arrAt 4 cfg0.N = HA m c := by
  refine (dats m 0 c).arrAt_eq_of_covers 4 _ (by decide +kernel) fun t _ y => ?_
  blk_simp
  rw [after0_4]; frame_out
  exact point m c t y

open Cert.ModRefIdeal.Read in
/-- The reference's operations, read at an index, give `H`. -/
theorem ref_eq (x : FVec Ideal S32768x2048 .f32) (g : FVec Ideal S2048 .f32) (sh sc : FVec Ideal S8x1x2048 .f32) :
    val_main_v21 (F := Ideal) x g sh sc = H x g sh sc := by
  funext i
  show _ = feat _ _ _ _ _ _
  pointwise [feat, seqOf, rms, val_main_v21, val_main_v20, val_main_v19, val_main_v18, val_main_v17, val_main_v16,
    val_main_v15, val_main_v14, val_main_cst_2, val_main_v13, val_main_v12, val_main_v11, val_main_v10, val_main_v9,
    val_main_v8, val_main_v7, val_main_v6, val_main_v5, val_main_cst_1, val_main_v4, val_main_v3, val_main_cst_0,
    val_main_v2, val_main_v1, val_main_cst, val_main_v0]

/-- The kernel's run, its result array at `H` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v1) = HA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.ModIdeal.Value.run_blocks m g)

/-- The claim: from arguments that agree, the kernel and the reference end with the same features. -/
theorem algebraic : algebraic_ModIdeal_ModRefIdeal (hModIdeal := Cert.ModIdeal.Gen.facts)
    (hModRefIdeal := Cert.ModRefIdeal.Gen.facts) := by
  intro m g m' g' _ hargs
  refine ⟨fun c => HA m c, run_kernel m g, ?_⟩
  refine (θ_run Cert.ModRefIdeal.defs _ _).mono (fun r h c => ?_) (Cert.ModRefIdeal.Value.run (F := Ideal) m' g')
  obtain ⟨h0, h1, h2, h3⟩ := hargs c
  refine ⟨(h c).1.trans ?_, (h c).2⟩
  rw [Cert.ModRefIdeal.Read.val_main_v21_eq, h0, h1, h2, h3]
  exact ref_eq _ _ _ _

/-- The reference's frame: its arguments are unchanged, and it declares no semaphore. -/
theorem frame_ref : quiescent_ModRefIdeal (hModRefIdeal := Cert.ModRefIdeal.Gen.facts) := fun m g _ =>
  (θ_run Cert.ModRefIdeal.defs _ _).mono (fun r h => ⟨fun c => (h c).2, sem_eq_zero_of_no_sems (by decide) r.2⟩)
    (Cert.ModRefIdeal.Value.run (F := Ideal) m g)

end Cert.Proof.Mod

end
-- ==== Proof.Norm.FinalSample.lean ====
/- Hand-written, untrusted: the final norm of the samples. `G` is what it computes: the root mean square norm of every row. -/
module

public import proofs.«01_k».proof.Proof.Norm.Rms
public import proofs.«01_k».proof.Proof.Gen.NormSampleIdeal.Value
public import proofs.«01_k».proof.Proof.Gen.NormSampleRefIdeal.Run
public import proofs.«01_k».proof.Proof.Gen.NormSampleRefIdeal.Read
public import proofs.«01_k».proof.Defs

@[expose] public section

set_option maxRecDepth 16384

noncomputable section

namespace Cert.Proof.NormSample

open Cert.NormSampleIdeal Cert.NormSampleIdeal.Gen Idealize.ShloMosaic Idealize.ShloMosaic.TcCoe Idealize.SL.Sem
open Cert.Proof.Norm (rms)

/-- The normed residual stream at a position and a feature. -/
def G (x : FVec Ideal S16384x2048 .f32) (g : FVec Ideal S2048 .f32) : FVec Ideal S16384x2048 .f32 :=
  fun i => rms (fun k => x (ix2 (i 0) k)) (x i) (g (ix1 (i 1)))

variable (m : (ℓ : Loc nD τ sig) → Buf (Elt Ideal) ℓ)

/-- `G` of the launched arguments. -/
abbrev GA (c : Dev nD) : FVec Ideal S16384x2048 .f32 :=
  G (m ((c : Thread nD τ).loc main_arg0)) (m ((c : Thread nD τ).loc main_arg1))

/-- The block of each window at a grid point: 32 row tiles. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- What the body stores at an index of its block is `G` at the array index the block puts it at. -/
theorem point (c : Dev nD) (t : Fin cfg0.N) (y) : k0_pay1 (iblk m c 0 t) (iblk m c 1 t) y
    = GA m c (((cfg0.win 2).blk t).view.emb y) := by
  show _ = G _ _ _
  pointwise [k0_pay1, G, rms]
  blk_point [iblk, V, idx t]

/-- The result array after the run. -/
theorem final (c : Dev nD) : (dats m 0 c).arrAt 2 cfg0.N = GA m c := by
  refine (dats m 0 c).arrAt_eq_of_covers 2 _ (by decide +kernel) fun t _ y => ?_
  blk_simp
  rw [after0_2]; frame_out
  exact point m c t y

open Cert.NormSampleRefIdeal.Read in
/-- The reference's operations, read at an index, give `G`. -/
theorem ref_eq (x : FVec Ideal S16384x2048 .f32) (g : FVec Ideal S2048 .f32) :
    val_main_v12 (F := Ideal) x g = G x g := by
  funext i
  pointwise [G, rms, val_main_v12, val_main_v11, val_main_v10, val_main_v9, val_main_v8, val_main_v7, val_main_v6,
    val_main_v5, val_main_cst_1, val_main_v4, val_main_v3, val_main_cst_0, val_main_v2, val_main_v1, val_main_cst,
    val_main_v0]

/-- The kernel's run, its result array at `G` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v1) = GA m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.NormSampleIdeal.Value.run_blocks m g)

/-- The claim: from arguments that agree, the kernel and the reference end with the same result, `G` of the arguments. -/
theorem algebraic : algebraic_NormSampleIdeal_NormSampleRefIdeal (hNormSampleIdeal := Cert.NormSampleIdeal.Gen.facts)
    (hNormSampleRefIdeal := Cert.NormSampleRefIdeal.Gen.facts) := by
  intro m g m' g' _ hargs
  refine ⟨fun c => GA m c, run_kernel m g, ?_⟩
  refine (θ_run Cert.NormSampleRefIdeal.defs _ _).mono (fun r h c => ?_) (Cert.NormSampleRefIdeal.Value.run (F := Ideal) m' g')
  obtain ⟨h0, h1⟩ := hargs c
  refine ⟨(h c).1.trans ?_, (h c).2⟩
  rw [Cert.NormSampleRefIdeal.Read.val_main_v12_eq, h0, h1]
  exact ref_eq _ _

/-- The reference's frame: its arguments are unchanged, and it declares no semaphore. -/
theorem frame_ref : quiescent_NormSampleRefIdeal (hNormSampleRefIdeal := Cert.NormSampleRefIdeal.Gen.facts) := fun m g _ =>
  (θ_run Cert.NormSampleRefIdeal.defs _ _).mono (fun r h => ⟨fun c => (h c).2, sem_eq_zero_of_no_sems (by decide) r.2⟩)
    (Cert.NormSampleRefIdeal.Value.run (F := Ideal) m g)

end Cert.Proof.NormSample

end
-- ==== Proof.Dft.Seq.lean ====
/- Hand-written, untrusted: the Fourier mixer's product over the positions of a sequence. `G` is what it computes: the
   transform's matrix, real parts' rows and then imaginary parts' rows, times the sequence's features. -/
module

public import proofs.«01_k».proof.Proof.Gen.DftSeqIdeal.Value
public import proofs.«01_k».proof.Proof.Gen.DftSeqRefIdeal.Run
public import proofs.«01_k».proof.Proof.Gen.DftSeqRefIdeal.Read
public import proofs.«01_k».proof.Defs
public import Idealize.ShloMosaic.Init
public import Idealize.ShloMosaic.Lib.Pipeline.ValueKit

@[expose] public section

set_option maxRecDepth 16384

noncomputable section

namespace Cert.Proof.DftSeq

open Cert.DftSeqIdeal Cert.DftSeqIdeal.Gen Idealize.ShloMosaic Idealize.ShloMosaic.TcCoe Idealize.SL.Sem

/-- Frequency `s` of sequence `b`: part `n / 512 % 2` (real, imaginary) of channel `n % 512` of group `n / 1024`. -/
def entry (w : FVec Ideal S8192x4096 .bf16) (h : FVec Ideal S8x4096x2048 .bf16) (b : Fin 8) (s n : Fin 4096) : EReal :=
  ∑ k : Fin 4096, w (ix2 ⟨n.val / 512 % 2 * 4096 + s.val, by omega⟩ k)
    * h (ix3 b k ⟨n.val / 1024 * 512 + n.val % 512, by omega⟩)

/-- The transformed sequences. -/
def G (w : FVec Ideal S8192x4096 .bf16) (h : FVec Ideal S8x4096x2048 .bf16) : FVec Ideal S8x4096x4096 .bf16 :=
  fun i => entry w h (i 0) (i 1) (i 2)

variable (m : (ℓ : Loc nD τ sig) → Buf (Elt Ideal) ℓ)

/-- `G` of the launched arguments. -/
abbrev GA (c : Dev nD) : FVec Ideal S8x4096x4096 .bf16 :=
  G (m ((c : Thread nD τ).loc main_arg0)) (m ((c : Thread nD τ).loc main_arg1))

/-- The block of each window at a grid point: the matrix's eight row tiles, four of each part, then the sequences, then the
    groups. -/
theorem idx : ∀ t : Fin cfg0.N, win0_0.index t = ![(grid0.coords t 0).val, 0]
    ∧ win0_1.index t = ![(grid0.coords t 1).val, 0, (grid0.coords t 2).val]
    ∧ win0_2.index t = ![(grid0.coords t 1).val, (grid0.coords t 0).val % 4,
        2 * (grid0.coords t 2).val + (grid0.coords t 0).val / 4] :=
  (by decide +kernel : ∀ t : Fin grid0.N, _)

/-- What the body stores at an index of its block is `G` at the array index the block puts it at. -/
theorem point (c : Dev nD) (t : Fin cfg0.N) (y) : k0_pay1 (iblk m c 0 t) (iblk m c 1 t) y
    = GA m c (((cfg0.win 2).blk t).view.emb y) := by
  have h0 : (grid0.coords t 0).val < 8 := (grid0.coords t 0).isLt
  show _ = entry _ _ _ _ _
  pointwise [k0_pay1, entry]
  blk_point [iblk, V, idx t]

/-- The result array after the run. -/
theorem final (c : Dev nD) : (dats m 0 c).arrAt 2 cfg0.N = GA m c := by
  refine (dats m 0 c).arrAt_eq_of_covers 2 _ (by decide +kernel) fun t _ y => ?_
  blk_simp
  rw [after0_2]; frame_out
  exact point m c t y

open Cert.DftSeqRefIdeal.Read in
/-- The reference's operations, read at an index, give `G`. -/
theorem ref_eq (w : FVec Ideal S8192x4096 .bf16) (h : FVec Ideal S8x4096x2048 .bf16) :
    val_main_v7 (F := Ideal) w h = G w h := by
  funext i
  show _ = entry _ _ _ _ _
  pointwise [entry, val_main_v7, val_main_v6, val_main_v5, val_main_v4, val_main_v3, val_main_v2, val_main_v1, val_main_v0]
  exact Finset.sum_congr rfl fun k _ => mul_comm _ _

/-- The kernel's run, its result array at `G` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v0) = GA m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.DftSeqIdeal.Value.run_blocks m g)

/-- The claim: from arguments that agree, the kernel and the reference end with the same result, `G` of the arguments. -/
theorem algebraic : algebraic_DftSeqIdeal_DftSeqRefIdeal (hDftSeqIdeal := Cert.DftSeqIdeal.Gen.facts)
    (hDftSeqRefIdeal := Cert.DftSeqRefIdeal.Gen.facts) := by
  intro m g m' g' _ hargs
  refine ⟨fun c => GA m c, run_kernel m g, ?_⟩
  refine (θ_run Cert.DftSeqRefIdeal.defs _ _).mono (fun r h c => ?_) (Cert.DftSeqRefIdeal.Value.run (F := Ideal) m' g')
  obtain ⟨h0, h1⟩ := hargs c
  refine ⟨(h c).1.trans ?_, (h c).2⟩
  rw [Cert.DftSeqRefIdeal.Read.val_main_v7_eq, h0, h1]
  exact ref_eq _ _

/-- The reference's frame: its arguments are unchanged, and it declares no semaphore. -/
theorem frame_ref : quiescent_DftSeqRefIdeal (hDftSeqRefIdeal := Cert.DftSeqRefIdeal.Gen.facts) := fun m g _ =>
  (θ_run Cert.DftSeqRefIdeal.defs _ _).mono (fun r h => ⟨fun c => (h c).2, sem_eq_zero_of_no_sems (by decide) r.2⟩)
    (Cert.DftSeqRefIdeal.Value.run (F := Ideal) m g)

end Cert.Proof.DftSeq

end
-- ==== Proof.Dft.Channel.lean ====
/- Hand-written, untrusted: the Fourier mixer's product over the channels of a group. `G` is what it computes: the rows of
   a group, real parts and then imaginary parts, times the transform's matrix. -/
module

public import proofs.«01_k».proof.Proof.Gen.DftChannelIdeal.Value
public import proofs.«01_k».proof.Proof.Gen.DftChannelRefIdeal.Run
public import proofs.«01_k».proof.Proof.Gen.DftChannelRefIdeal.Read
public import proofs.«01_k».proof.Defs
public import Idealize.ShloMosaic.Init
public import Idealize.ShloMosaic.Lib.Pipeline.ValueKit

@[expose] public section

set_option maxRecDepth 16384

noncomputable section

namespace Cert.Proof.DftChannel

open Cert.DftChannelIdeal Cert.DftChannelIdeal.Gen Idealize.ShloMosaic Idealize.ShloMosaic.TcCoe Idealize.SL.Sem

/-- Channel `n % 512` of group `n / 512` of row `r`. -/
def entry (z : FVec Ideal S32768x4096 .bf16) (w : FVec Ideal S1024x512 .bf16) (r : Fin 32768) (n : Fin 2048) : EReal :=
  ∑ k : Fin 1024, z (ix2 r ⟨n.val / 512 * 1024 + k.val, by omega⟩) * w (ix2 k ⟨n.val % 512, by omega⟩)

/-- The transformed rows. -/
def G (z : FVec Ideal S32768x4096 .bf16) (w : FVec Ideal S1024x512 .bf16) : FVec Ideal S32768x2048 .bf16 :=
  fun i => entry z w (i 0) (i 1)

variable (m : (ℓ : Loc nD τ sig) → Buf (Elt Ideal) ℓ)

/-- `G` of the launched arguments. -/
abbrev GA (c : Dev nD) : FVec Ideal S32768x2048 .bf16 :=
  G (m ((c : Thread nD τ).loc main_arg0)) (m ((c : Thread nD τ).loc main_arg1))

/-- The block of each window at a grid point: 32 row tiles, then the four groups. -/
theorem idx : ∀ t : Fin cfg0.N, win0_0.index t = ![(grid0.coords t 0).val, (grid0.coords t 1).val]
    ∧ win0_1.index t = ![0, 0] ∧ win0_2.index t = ![(grid0.coords t 0).val, (grid0.coords t 1).val] :=
  (by decide +kernel : ∀ t : Fin grid0.N, _)

/-- What the body stores at an index of its block is `G` at the array index the block puts it at. -/
theorem point (c : Dev nD) (t : Fin cfg0.N) (y) : k0_pay1 (iblk m c 0 t) (iblk m c 1 t) y
    = GA m c (((cfg0.win 2).blk t).view.emb y) := by
  show _ = entry _ _ _ _
  pointwise [k0_pay1, entry]
  blk_point [iblk, V, idx t]

/-- The result array after the run. -/
theorem final (c : Dev nD) : (dats m 0 c).arrAt 2 cfg0.N = GA m c := by
  refine (dats m 0 c).arrAt_eq_of_covers 2 _ (by decide +kernel) fun t _ y => ?_
  blk_simp
  rw [after0_2]; frame_out
  exact point m c t y

open Cert.DftChannelRefIdeal.Read in
/-- The reference's operations, read at an index, give `G`. -/
theorem ref_eq (z : FVec Ideal S32768x4096 .bf16) (w : FVec Ideal S1024x512 .bf16) :
    val_main_v5 (F := Ideal) z w = G z w := by
  funext i
  show _ = entry _ _ _ _
  pointwise [entry, val_main_v5, val_main_v4, val_main_v3, val_main_v2, val_main_v1, val_main_v0]

/-- The kernel's run, its result array at `G` of the arguments. -/
theorem run_kernel (g : Dev nD → PrngReg) :
    θ_run (defs (F := Ideal)) (onTc (τ := τ) (main (F := Ideal))) ⟨m, fun _ => 0, g⟩ fun r => ∀ c : Dev nD,
      r.2.mem ((c : Thread nD τ).loc main_v0) = GA m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.DftChannelIdeal.Value.run_blocks m g)

/-- The claim: from arguments that agree, the kernel and the reference end with the same result, `G` of the arguments. -/
theorem algebraic : algebraic_DftChannelIdeal_DftChannelRefIdeal (hDftChannelIdeal := Cert.DftChannelIdeal.Gen.facts)
    (hDftChannelRefIdeal := Cert.DftChannelRefIdeal.Gen.facts) := by
  intro m g m' g' _ hargs
  refine ⟨fun c => GA m c, run_kernel m g, ?_⟩
  refine (θ_run Cert.DftChannelRefIdeal.defs _ _).mono (fun r h c => ?_) (Cert.DftChannelRefIdeal.Value.run (F := Ideal) m' g')
  obtain ⟨h0, h1⟩ := hargs c
  refine ⟨(h c).1.trans ?_, (h c).2⟩
  rw [Cert.DftChannelRefIdeal.Read.val_main_v5_eq, h0, h1]
  exact ref_eq _ _

/-- The reference's frame: its arguments are unchanged, and it declares no semaphore. -/
theorem frame_ref : quiescent_DftChannelRefIdeal (hDftChannelRefIdeal := Cert.DftChannelRefIdeal.Gen.facts) := fun m g _ =>
  (θ_run Cert.DftChannelRefIdeal.defs _ _).mono (fun r h => ⟨fun c => (h c).2, sem_eq_zero_of_no_sems (by decide) r.2⟩)
    (Cert.DftChannelRefIdeal.Value.run (F := Ideal) m g)

end Cert.Proof.DftChannel

end
-- ==== Proof.lean ====
module

public import proofs.«01_k».proof.Defs
public import proofs.«01_k».proof.Proof.Gen.FfnUp
public import proofs.«01_k».proof.Proof.Gen.FfnUp.Frame
public import proofs.«01_k».proof.Proof.FfnUp
public import proofs.«01_k».proof.Proof.Gen.FfnDown
public import proofs.«01_k».proof.Proof.Gen.FfnDown.Frame
public import proofs.«01_k».proof.Proof.FfnDown
public import proofs.«01_k».proof.Proof.Gen.Attn16
public import proofs.«01_k».proof.Proof.Gen.Attn16.Frame
public import proofs.«01_k».proof.Proof.Gen.Attn16Ideal
public import proofs.«01_k».proof.Proof.Gen.Attn16Ideal.Value
public import proofs.«01_k».proof.Proof.Gen.AttnRef16Ideal.Run
public import proofs.«01_k».proof.Proof.Gen.AttnRef16Ideal.Read
public import proofs.«01_k».proof.Proof.Attn.Attn16Claim
public import proofs.«01_k».proof.Proof.Gen.Qkv1
public import proofs.«01_k».proof.Proof.Gen.Qkv1.Frame
public import proofs.«01_k».proof.Proof.Gen.Qkv1Ideal.Value
public import proofs.«01_k».proof.Proof.Gen.Qkv1RefIdeal.Run
public import proofs.«01_k».proof.Proof.Gen.Qkv1RefIdeal.Read
public import proofs.«01_k».proof.Proof.Gen.Qkv4
public import proofs.«01_k».proof.Proof.Gen.Qkv4.Frame
public import proofs.«01_k».proof.Proof.Gen.Qkv4Ideal.Value
public import proofs.«01_k».proof.Proof.Gen.Qkv4RefIdeal.Run
public import proofs.«01_k».proof.Proof.Gen.Qkv4RefIdeal.Read
public import proofs.«01_k».proof.Proof.Gen.Qkv16
public import proofs.«01_k».proof.Proof.Gen.Qkv16.Frame
public import proofs.«01_k».proof.Proof.Gen.Qkv16Ideal.Value
public import proofs.«01_k».proof.Proof.Gen.Qkv16RefIdeal.Run
public import proofs.«01_k».proof.Proof.Gen.Qkv16RefIdeal.Read
public import proofs.«01_k».proof.Proof.Gen.AttnOut
public import proofs.«01_k».proof.Proof.Gen.AttnOut.Frame
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Proof.Gen.FourierOut
public import proofs.«01_k».proof.Proof.Gen.FourierOut.Frame
public import proofs.«01_k».proof.Proof.Gen.FourierOutIdeal.Value
public import proofs.«01_k».proof.Proof.Gen.FourierOutRefIdeal.Run
public import proofs.«01_k».proof.Proof.Gen.FourierOutRefIdeal.Read
public import proofs.«01_k».proof.Proof.Gen.Norm
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Router
public import proofs.«01_k».proof.Proof.Gen.Router.Frame
public import proofs.«01_k».proof.Proof.Gen.RouterIdeal.Value
public import proofs.«01_k».proof.Proof.Gen.RouterRefIdeal.Run
public import proofs.«01_k».proof.Proof.Gen.RouterRefIdeal.Read
public import proofs.«01_k».proof.Proof.Gen.Mod
public import proofs.«01_k».proof.Proof.Gen.Mod.Frame
public import proofs.«01_k».proof.Proof.Gen.ModIdeal.Value
public import proofs.«01_k».proof.Proof.Gen.ModRefIdeal.Run
public import proofs.«01_k».proof.Proof.Gen.ModRefIdeal.Read
public import proofs.«01_k».proof.Proof.Gen.NormSample
public import proofs.«01_k».proof.Proof.Gen.NormSample.Frame
public import proofs.«01_k».proof.Proof.Gen.NormSampleIdeal.Value
public import proofs.«01_k».proof.Proof.Gen.NormSampleRefIdeal.Run
public import proofs.«01_k».proof.Proof.Gen.NormSampleRefIdeal.Read
public import proofs.«01_k».proof.Proof.Gen.DftSeq
public import proofs.«01_k».proof.Proof.Gen.DftSeq.Frame
public import proofs.«01_k».proof.Proof.Gen.DftSeqIdeal.Value
public import proofs.«01_k».proof.Proof.Gen.DftSeqRefIdeal.Run
public import proofs.«01_k».proof.Proof.Gen.DftSeqRefIdeal.Read
public import proofs.«01_k».proof.Proof.Gen.DftChannel
public import proofs.«01_k».proof.Proof.Gen.DftChannel.Frame
public import proofs.«01_k».proof.Proof.Gen.DftChannelIdeal.Value
public import proofs.«01_k».proof.Proof.Gen.DftChannelRefIdeal.Run
public import proofs.«01_k».proof.Proof.Gen.DftChannelRefIdeal.Read
public import proofs.«01_k».proof.Proof.Qkv.Qkv1
public import proofs.«01_k».proof.Proof.Qkv.Qkv4
public import proofs.«01_k».proof.Proof.Qkv.Qkv16
public import proofs.«01_k».proof.Proof.Out.AttnOut
public import proofs.«01_k».proof.Proof.Out.FourierOut
public import proofs.«01_k».proof.Proof.Norm.Final
public import proofs.«01_k».proof.Proof.Norm.Router
public import proofs.«01_k».proof.Proof.Norm.Mod
public import proofs.«01_k».proof.Proof.Norm.FinalSample
public import proofs.«01_k».proof.Proof.Dft.Seq
public import proofs.«01_k».proof.Proof.Dft.Channel
public import Idealize.ShloMosaic.Adequacy
public import Idealize.ShloMosaic.Init

@[expose] public section

noncomputable section

namespace Cert.Proof

open Idealize.ShloMosaic Idealize.SL.Sem

theorem claim : Cert.Claim := ⟨Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.Attn16.Gen.facts, Cert.Attn16Ideal.Gen.facts, Cert.AttnRef16Ideal.Gen.facts,
  Cert.Qkv1.Gen.facts, Cert.Qkv1Ideal.Gen.facts, Cert.Qkv1RefIdeal.Gen.facts,
  Cert.Qkv4.Gen.facts, Cert.Qkv4Ideal.Gen.facts, Cert.Qkv4RefIdeal.Gen.facts,
  Cert.Qkv16.Gen.facts, Cert.Qkv16Ideal.Gen.facts, Cert.Qkv16RefIdeal.Gen.facts,
  Cert.AttnOut.Gen.facts, Cert.AttnOutIdeal.Gen.facts, Cert.AttnOutRefIdeal.Gen.facts,
  Cert.FourierOut.Gen.facts, Cert.FourierOutIdeal.Gen.facts, Cert.FourierOutRefIdeal.Gen.facts,
  Cert.Norm.Gen.facts, Cert.NormIdeal.Gen.facts, Cert.NormRefIdeal.Gen.facts,
  Cert.Router.Gen.facts, Cert.RouterIdeal.Gen.facts, Cert.RouterRefIdeal.Gen.facts,
  Cert.Mod.Gen.facts, Cert.ModIdeal.Gen.facts, Cert.ModRefIdeal.Gen.facts,
  Cert.NormSample.Gen.facts, Cert.NormSampleIdeal.Gen.facts, Cert.NormSampleRefIdeal.Gen.facts,
  Cert.DftSeq.Gen.facts, Cert.DftSeqIdeal.Gen.facts, Cert.DftSeqRefIdeal.Gen.facts,
  Cert.DftChannel.Gen.facts, Cert.DftChannelIdeal.Gen.facts, Cert.DftChannelRefIdeal.Gen.facts,
  fun m ρ _ => Cert.FfnUp.Gen.frame m ρ, fun m ρ _ => Cert.FfnUpIdeal.Gen.frame m ρ,
  FfnUp.frame_ref,
  fun m ρ _ => Cert.FfnDown.Gen.frame m ρ, fun m ρ _ => Cert.FfnDownIdeal.Gen.frame m ρ,
  FfnDown.frame_ref,
  fun m ρ _ => Cert.Attn16.Gen.frame m ρ, fun m ρ _ => Cert.Attn16Ideal.Gen.frame m ρ,
  Attn16.frame_ref,
  fun m ρ _ => Cert.Qkv1.Gen.frame m ρ, fun m ρ _ => Cert.Qkv1Ideal.Gen.frame m ρ,
  Qkv1.frame_ref,
  fun m ρ _ => Cert.Qkv4.Gen.frame m ρ, fun m ρ _ => Cert.Qkv4Ideal.Gen.frame m ρ,
  Qkv4.frame_ref,
  fun m ρ _ => Cert.Qkv16.Gen.frame m ρ, fun m ρ _ => Cert.Qkv16Ideal.Gen.frame m ρ,
  Qkv16.frame_ref,
  fun m ρ _ => Cert.AttnOut.Gen.frame m ρ, fun m ρ _ => Cert.AttnOutIdeal.Gen.frame m ρ,
  AttnOut.frame_ref,
  fun m ρ _ => Cert.FourierOut.Gen.frame m ρ, fun m ρ _ => Cert.FourierOutIdeal.Gen.frame m ρ,
  FourierOut.frame_ref,
  fun m ρ _ => Cert.Norm.Gen.frame m ρ, fun m ρ _ => Cert.NormIdeal.Gen.frame m ρ,
  Norm.frame_ref,
  fun m ρ _ => Cert.Router.Gen.frame m ρ, fun m ρ _ => Cert.RouterIdeal.Gen.frame m ρ,
  Router.frame_ref,
  fun m ρ _ => Cert.Mod.Gen.frame m ρ, fun m ρ _ => Cert.ModIdeal.Gen.frame m ρ,
  Mod.frame_ref,
  fun m ρ _ => Cert.NormSample.Gen.frame m ρ, fun m ρ _ => Cert.NormSampleIdeal.Gen.frame m ρ,
  NormSample.frame_ref,
  fun m ρ _ => Cert.DftSeq.Gen.frame m ρ, fun m ρ _ => Cert.DftSeqIdeal.Gen.frame m ρ,
  DftSeq.frame_ref,
  fun m ρ _ => Cert.DftChannel.Gen.frame m ρ, fun m ρ _ => Cert.DftChannelIdeal.Gen.frame m ρ,
  DftChannel.frame_ref,
  trivial, FfnUp.algebraic, trivial, FfnDown.algebraic,
  IdealRules.named_const.statement Cert.Attn16Ideal.κ "mask" .f32 0xF149F2CA#32 ⊥ rfl, Attn16.algebraic,
  trivial, Qkv1.algebraic, trivial, Qkv4.algebraic, trivial, Qkv16.algebraic,
  trivial, AttnOut.algebraic, trivial, FourierOut.algebraic, trivial, Norm.algebraic, trivial, Router.algebraic,
  trivial, Mod.algebraic, trivial, NormSample.algebraic,
  trivial, DftSeq.algebraic, trivial, DftChannel.algebraic⟩

end Cert.Proof

end
